-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_centred [hPre_finite_centred : Cert.Pre_finite_centred.Facts] (m : (ℓ : Loc Cert.KernelIdeal.nD Cert.KernelIdeal.τ Cert.KernelIdeal.sig) → Buf (Elt Ideal) ℓ) : Prop :=
  ∀ c : Dev Cert.KernelIdeal.nD,
    (Cert.Pre_finite_centred.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_centred [hPre_finite_centred : Cert.Pre_finite_centred.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_centred.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_centred [hKernelIdeal : Cert.KernelIdeal.Facts] [hPre_finite_centred : Cert.Pre_finite_centred.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_centred m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_centred [hReferenceIdeal : Cert.ReferenceIdeal.Facts] [hPre_finite_centred : Cert.Pre_finite_centred.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_centred m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_two_pi" .f32 0x3E22F983#32 (((2 * Real.pi)⁻¹ : ℝ) : EReal)
  ∧ IdealRules.named_const.Statement Cert.KernelIdeal.κ "neg_half_log2e" .f32 0xBF38AA3B#32 ((-((2 * (Real.log 2))⁻¹) : ℝ) : EReal)

def algebraic_KernelIdeal_ReferenceIdeal_pre_finite_centred [hKernelIdeal : Cert.KernelIdeal.Facts] [hReferenceIdeal : Cert.ReferenceIdeal.Facts] [hPre_finite_centred : Cert.Pre_finite_centred.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_centred m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_centred : Cert.Pre_finite_centred.Facts),
    quiescent_Kernel (hKernel := hKernel)
    ∧ quiescent_KernelIdeal (hKernelIdeal := hKernelIdeal)
    ∧ quiescent_KernelIdeal_pre_finite_centred (hKernelIdeal := hKernelIdeal) (hPre_finite_centred := hPre_finite_centred)
    ∧ quiescent_ReferenceIdeal (hReferenceIdeal := hReferenceIdeal)
    ∧ quiescent_ReferenceIdeal_pre_finite_centred (hReferenceIdeal := hReferenceIdeal) (hPre_finite_centred := hPre_finite_centred)
    ∧ preserves_Kernel_KernelIdeal
    ∧ algebraic_KernelIdeal_ReferenceIdeal_pre_finite_centred (hKernelIdeal := hKernelIdeal) (hReferenceIdeal := hReferenceIdeal) (hPre_finite_centred := hPre_finite_centred)
-- ==== Pre_finite_centred.lean ====
abbrev S1000000x2 : Shape := ⟨2, ![1000000, 2]⟩
abbrev S32x2 : Shape := ⟨2, ![32, 2]⟩
abbrev S32x2x2 : Shape := ⟨3, ![32, 2, 2]⟩
abbrev S32 : Shape := ⟨1, ![32]⟩
abbrev S_ : Shape := ⟨0, ![]⟩
abbrev S32x1x1 : Shape := ⟨3, ![32, 1, 1]⟩

class Facts : Prop where
  bcast_S_S1000000x2 : S_.BroadcastsInDim S1000000x2 (![] : Fin 0 → Fin S1000000x2.rank)
  reducesTo_S1000000x2_S_d0_1 : S1000000x2.ReducesTo [0, 1] S_
  h_S_ : 0 < S_.numel
  bcast_S_S32x2 : S_.BroadcastsInDim S32x2 (![] : Fin 0 → Fin S32x2.rank)
  reducesTo_S32x2_S_d0_1 : S32x2.ReducesTo [0, 1] S_
  slices_S32x2x2_S32x1x1_0_0_0 : S32x2x2.Slices ![0, 0, 0] S32x1x1
  shapeCasts_S32x1x1_S32 : S32x1x1.ShapeCasts S32
  bcast_S_S32 : S_.BroadcastsInDim S32 (![] : Fin 0 → Fin S32.rank)
  reducesTo_S32_S_d0 : S32.ReducesTo [0] S_
  slices_S32x2x2_S32x1x1_0_1_0 : S32x2x2.Slices ![0, 1, 0] S32x1x1
  slices_S32x2x2_S32x1x1_0_1_1 : S32x2x2.Slices ![0, 1, 1] S32x1x1

variable [Facts]

def fn_part1 {F : FTy → Type} [FloatOps F] (main_arg2 : FVec F S32x2x2 .f32) (main_arg3 : FVec F S32 .f32) (main_v14 : IVec S_ 1) (main_v17 : FVec F S32 .f32) : IVec S_ 1 :=
  let main_cst_4 : FVec F S_ .f32 := constant S_ .f32 0x7F800000#32
  let main_v18 : FVec F S32 .f32 := broadcastInDim S32 ![] bcast_S_S32 main_cst_4
  let main_v19 : IVec S32 1 := cmpf .olt main_v17 main_v18
  let main_c_5 : IVec S_ 1 := constantI S_ 1 1#1
  let main_v20 : IVec S_ 1 := (fun x v => Host.reduce IntOp.andi x v reducesTo_S32_S_d0 h_S_) main_v19 main_c_5
  let main_v21 : IVec S_ 1 := andi main_v14 main_v20
  let main_v22 : FVec F S32x1x1 .f32 := (extractStridedSlice S32x1x1 ![0, 1, 1] · slices_S32x2x2_S32x1x1_0_1_1) main_arg2
  let main_v23 : FVec F S32 .f32 := shapeCast S32 main_v22 shapeCasts_S32x1x1_S32
  let main_v24 : FVec F S32 .f32 := Host.absf main_v23
  let main_cst_6 : FVec F S_ .f32 := constant S_ .f32 0x7F800000#32
  let main_v25 : FVec F S32 .f32 := broadcastInDim S32 ![] bcast_S_S32 main_cst_6
  let main_v26 : IVec S32 1 := cmpf .olt main_v24 main_v25
  let main_c_7 : IVec S_ 1 := constantI S_ 1 1#1
  let main_v27 : IVec S_ 1 := (fun x v => Host.reduce IntOp.andi x v reducesTo_S32_S_d0 h_S_) main_v26 main_c_7
  let main_v28 : IVec S_ 1 := andi main_v21 main_v27
  let main_v29 : FVec F S32 .f32 := Host.absf main_arg3
  let main_cst_8 : FVec F S_ .f32 := constant S_ .f32 0x7F800000#32
  let main_v30 : FVec F S32 .f32 := broadcastInDim S32 ![] bcast_S_S32 main_cst_8
  let main_v31 : IVec S32 1 := cmpf .olt main_v29 main_v30
  let main_c_9 : IVec S_ 1 := constantI S_ 1 1#1
  let main_v32 : IVec S_ 1 := (fun x v => Host.reduce IntOp.andi x v reducesTo_S32_S_d0 h_S_) main_v31 main_c_9
  let main_v33 : IVec S_ 1 := andi main_v28 main_v32
  main_v33

def fn {F : FTy → Type} [FloatOps F] (main_arg0 : FVec F S1000000x2 .f32) (main_arg1 : FVec F S32x2 .f32) (main_arg2 : FVec F S32x2x2 .f32) (main_arg3 : FVec F S32 .f32) (main_arg4 : IVec S_ 32) : IVec S_ 1 :=
  let main_v0 : FVec F S1000000x2 .f32 := Host.absf main_arg0
  let main_cst : FVec F S_ .f32 := constant S_ .f32 0x7F800000#32
  let main_v1 : FVec F S1000000x2 .f32 := broadcastInDim S1000000x2 ![] bcast_S_S1000000x2 main_cst
  let main_v2 : IVec S1000000x2 1 := cmpf .olt main_v0 main_v1
  let main_c : IVec S_ 1 := constantI S_ 1 1#1
  let main_v3 : IVec S_ 1 := (fun x v => Host.reduce IntOp.andi x v reducesTo_S1000000x2_S_d0_1 h_S_) main_v2 main_c
  let main_cst_0 : FVec F S_ .f32 := constant S_ .f32 0x00000000#32
  let main_v4 : FVec F S32x2 .f32 := broadcastInDim S32x2 ![] bcast_S_S32x2 main_cst_0
  let main_v5 : IVec S32x2 1 := cmpf .oeq main_arg1 main_v4
  let main_c_1 : IVec S_ 1 := constantI S_ 1 1#1
  let main_v6 : IVec S_ 1 := (fun x v => Host.reduce IntOp.andi x v reducesTo_S32x2_S_d0_1 h_S_) main_v5 main_c_1
  let main_v7 : IVec S_ 1 := andi main_v3 main_v6
  let main_v8 : FVec F S32x1x1 .f32 := (extractStridedSlice S32x1x1 ![0, 0, 0] · slices_S32x2x2_S32x1x1_0_0_0) main_arg2
  let main_v9 : FVec F S32 .f32 := shapeCast S32 main_v8 shapeCasts_S32x1x1_S32
  let main_v10 : FVec F S32 .f32 := Host.absf main_v9
  let main_cst_2 : FVec F S_ .f32 := constant S_ .f32 0x7F800000#32
  let main_v11 : FVec F S32 .f32 := broadcastInDim S32 ![] bcast_S_S32 main_cst_2
  let main_v12 : IVec S32 1 := cmpf .olt main_v10 main_v11
  let main_c_3 : IVec S_ 1 := constantI S_ 1 1#1
  let main_v13 : IVec S_ 1 := (fun x v => Host.reduce IntOp.andi x v reducesTo_S32_S_d0 h_S_) main_v12 main_c_3
  let main_v14 : IVec S_ 1 := andi main_v7 main_v13
  let main_v15 : FVec F S32x1x1 .f32 := (extractStridedSlice S32x1x1 ![0, 1, 0] · slices_S32x2x2_S32x1x1_0_1_0) main_arg2
  let main_v16 : FVec F S32 .f32 := shapeCast S32 main_v15 shapeCasts_S32x1x1_S32
  let main_v17 : FVec F S32 .f32 := Host.absf main_v16
  fn_part1 (F := F) main_arg2 main_arg3 main_v14 main_v17
-- ==== Kernel.lean ====
abbrev S1000000x2 : Shape := ⟨2, ![1000000, 2]⟩
abbrev S32x2 : Shape := ⟨2, ![32, 2]⟩
abbrev S32x2x2 : Shape := ⟨3, ![32, 2, 2]⟩
abbrev S32 : Shape := ⟨1, ![32]⟩
abbrev S_ : Shape := ⟨0, ![]⟩
abbrev S32x1x1 : Shape := ⟨3, ![32, 1, 1]⟩
abbrev S32x1 : Shape := ⟨2, ![32, 1]⟩
abbrev S1x32 : Shape := ⟨2, ![1, 32]⟩
abbrev S6x32 : Shape := ⟨2, ![6, 32]⟩
abbrev S32x6 : Shape := ⟨2, ![32, 6]⟩
abbrev S393216x2 : Shape := ⟨2, ![393216, 2]⟩
abbrev S768x512x2 : Shape := ⟨3, ![768, 512, 2]⟩
abbrev S768x512x1 : Shape := ⟨3, ![768, 512, 1]⟩
abbrev S768x512 : Shape := ⟨2, ![768, 512]⟩
abbrev S1x1 : Shape := ⟨2, ![1, 1]⟩
abbrev S128x512 : Shape := ⟨2, ![128, 512]⟩
abbrev S8x512 : Shape := ⟨2, ![8, 512]⟩
abbrev S4x32 : Shape := ⟨2, ![4, 32]⟩
abbrev S32x32 : Shape := ⟨2, ![32, 32]⟩
abbrev S1x32x32 : Shape := ⟨3, ![1, 32, 32]⟩
abbrev S1 : Shape := ⟨1, ![1]⟩
abbrev S1x1x1 : Shape := ⟨3, ![1, 1, 1]⟩
abbrev S1x8x512 : Shape := ⟨3, ![1, 8, 512]⟩
abbrev S213568x2 : Shape := ⟨2, ![213568, 2]⟩
abbrev S262144x2 : Shape := ⟨2, ![262144, 2]⟩
abbrev S512x512x2 : Shape := ⟨3, ![512, 512, 2]⟩
abbrev S512x512x1 : Shape := ⟨3, ![512, 512, 1]⟩
abbrev S512x512 : Shape := ⟨2, ![512, 512]⟩

abbrev nBuf : Space → Nat
  | .hbm => 70
  | .vmem => 27
  | .smem => 3
  | _ => 0

abbrev bufTy : (tb : Table) → Fin (tcTables nBuf tb) → BufTy
  | .hbm, ⟨0, _⟩ => ⟨S1000000x2, .f32⟩
  | .hbm, ⟨1, _⟩ => ⟨S32x2, .f32⟩
  | .hbm, ⟨2, _⟩ => ⟨S32x2x2, .f32⟩
  | .hbm, ⟨3, _⟩ => ⟨S32, .f32⟩
  | .hbm, ⟨4, _⟩ => ⟨S_, .i32⟩
  | .hbm, ⟨5, _⟩ => ⟨S32x1x1, .f32⟩
  | .hbm, ⟨6, _⟩ => ⟨S32, .f32⟩
  | .hbm, ⟨7, _⟩ => ⟨S32x1x1, .f32⟩
  | .hbm, ⟨8, _⟩ => ⟨S32, .f32⟩
  | .hbm, ⟨9, _⟩ => ⟨S32x1x1, .f32⟩
  | .hbm, ⟨10, _⟩ => ⟨S32, .f32⟩
  | .hbm, ⟨11, _⟩ => ⟨S32x1, .f32⟩
  | .hbm, ⟨12, _⟩ => ⟨S32, .f32⟩
  | .hbm, ⟨13, _⟩ => ⟨S32x1, .f32⟩
  | .hbm, ⟨14, _⟩ => ⟨S32, .f32⟩
  | .hbm, ⟨15, _⟩ => ⟨S1x32, .f32⟩
  | .hbm, ⟨16, _⟩ => ⟨S1x32, .f32⟩
  | .hbm, ⟨17, _⟩ => ⟨S1x32, .f32⟩
  | .hbm, ⟨18, _⟩ => ⟨S1x32, .f32⟩
  | .hbm, ⟨19, _⟩ => ⟨S1x32, .f32⟩
  | .hbm, ⟨20, _⟩ => ⟨S1x32, .f32⟩
  | .hbm, ⟨21, _⟩ => ⟨S6x32, .f32⟩
  | .hbm, ⟨22, _⟩ => ⟨S32x6, .f32⟩
  | .hbm, ⟨23, _⟩ => ⟨S393216x2, .f32⟩
  | .hbm, ⟨24, _⟩ => ⟨S_, .i32⟩
  | .hbm, ⟨25, _⟩ => ⟨S_, .f32⟩
  | .hbm, ⟨26, _⟩ => ⟨S393216x2, .f32⟩
  | .hbm, ⟨27, _⟩ => ⟨S768x512x2, .f32⟩
  | .hbm, ⟨28, _⟩ => ⟨S768x512x1, .f32⟩
  | .hbm, ⟨29, _⟩ => ⟨S768x512, .f32⟩
  | .hbm, ⟨30, _⟩ => ⟨S768x512x1, .f32⟩
  | .hbm, ⟨31, _⟩ => ⟨S768x512, .f32⟩
  | .hbm, ⟨32, _⟩ => ⟨S1x1, .f32⟩
  | .hbm, ⟨33, _⟩ => ⟨S1x1, .f32⟩
  | .hbm, ⟨34, _⟩ => ⟨S_, .f32⟩
  | .hbm, ⟨35, _⟩ => ⟨S_, .f32⟩
  | .hbm, ⟨36, _⟩ => ⟨S393216x2, .f32⟩
  | .hbm, ⟨37, _⟩ => ⟨S_, .i32⟩
  | .hbm, ⟨38, _⟩ => ⟨S_, .f32⟩
  | .hbm, ⟨39, _⟩ => ⟨S393216x2, .f32⟩
  | .hbm, ⟨40, _⟩ => ⟨S768x512x2, .f32⟩
  | .hbm, ⟨41, _⟩ => ⟨S768x512x1, .f32⟩
  | .hbm, ⟨42, _⟩ => ⟨S768x512, .f32⟩
  | .hbm, ⟨43, _⟩ => ⟨S768x512x1, .f32⟩
  | .hbm, ⟨44, _⟩ => ⟨S768x512, .f32⟩
  | .hbm, ⟨45, _⟩ => ⟨S1x1, .f32⟩
  | .hbm, ⟨46, _⟩ => ⟨S1x1, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S213568x2, .f32⟩
  | .hbm, ⟨51, _⟩ => ⟨S_, .i32⟩
  | .hbm, ⟨52, _⟩ => ⟨S_, .f32⟩
  | .hbm, ⟨53, _⟩ => ⟨S262144x2, .f32⟩
  | .hbm, ⟨54, _⟩ => ⟨S512x512x2, .f32⟩
  | .hbm, ⟨55, _⟩ => ⟨S512x512x1, .f32⟩
  | .hbm, ⟨56, _⟩ => ⟨S512x512, .f32⟩
  | .hbm, ⟨57, _⟩ => ⟨S512x512x1, .f32⟩
  | .hbm, ⟨58, _⟩ => ⟨S512x512, .f32⟩
  | .hbm, ⟨59, _⟩ => ⟨S1x1, .f32⟩
  | .hbm, ⟨60, _⟩ => ⟨S1x1, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S6x32, .f32⟩
  | .local _ .vmem, ⟨5, _⟩ => ⟨S32x6, .f32⟩
  | .local _ .vmem, ⟨6, _⟩ => ⟨S1x1, .f32⟩
  | .local _ .vmem, ⟨7, _⟩ => ⟨S1x1, .f32⟩
  | .local _ .vmem, ⟨8, _⟩ => ⟨S8x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S6x32, .f32⟩
  | .local _ .vmem, ⟨14, _⟩ => ⟨S32x6, .f32⟩
  | .local _ .vmem, ⟨15, _⟩ => ⟨S1x1, .f32⟩
  | .local _ .vmem, ⟨16, _⟩ => ⟨S1x1, .f32⟩
  | .local _ .vmem, ⟨17, _⟩ => ⟨S8x512, .f32⟩
  | .local _ .vmem, ⟨18, _⟩ => ⟨S128x512, .f32⟩
  | .local _ .vmem, ⟨19, _⟩ => ⟨S128x512, .f32⟩
  | .local _ .vmem, ⟨20, _⟩ => ⟨S128x512, .f32⟩
  | .local _ .vmem, ⟨21, _⟩ => ⟨S128x512, .f32⟩
  | .local _ .vmem, ⟨22, _⟩ => ⟨S6x32, .f32⟩
  | .local _ .vmem, ⟨23, _⟩ => ⟨S32x6, .f32⟩
  | .local _ .vmem, ⟨24, _⟩ => ⟨S1x1, .f32⟩
  | .local _ .vmem, ⟨25, _⟩ => ⟨S1x1, .f32⟩
  | .local _ .vmem, ⟨26, _⟩ => ⟨S8x512, .f32⟩
  | .local _ .smem, ⟨0, _⟩ => ⟨S4x32, .f32⟩
  | .local _ .smem, ⟨1, _⟩ => ⟨S4x32, .f32⟩
  | .local _ .smem, ⟨2, _⟩ => ⟨S4x32, .f32⟩
  | _, _ => ⟨S1000000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_c : Ref sig .tc := ⟨.hbm, 24, rfl⟩
abbrev main_call0_v0 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25_0 : Ref sig .tc := ⟨.hbm, 32, rfl⟩
abbrev main_v25_1 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_c_0 : Ref sig .tc := ⟨.hbm, 37, rfl⟩
abbrev main_call1_v0 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35_0 : Ref sig .tc := ⟨.hbm, 45, rfl⟩
abbrev main_v35_1 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_c_1 : Ref sig .tc := ⟨.hbm, 51, rfl⟩
abbrev main_call2_v0 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46_0 : Ref sig .tc := ⟨.hbm, 59, rfl⟩
abbrev main_v46_1 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst : Ref sig .tc := ⟨.hbm, 68, rfl⟩
abbrev main_v54 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_scratch0 : Ref sig .tc := ⟨.vmem, 26, rfl⟩
abbrev cc0_scratch1 : Ref sig .tc := ⟨.smem, 0, rfl⟩
abbrev cc1_scratch1 : Ref sig .tc := ⟨.smem, 1, rfl⟩
abbrev cc2_scratch1 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23

abbrev nD : Nat := 1
abbrev τ : Topo := Topo.v7x

variable {F : FTy → Type} [FloatOps F]

abbrev grid0 : Pipeline.Grid := ⟨1, ![6], ![false]⟩

def k0_cond4 (i : grid0.Coords) : BitVec 1 :=
  let arg0 : BitVec 32 := BitVec.ofNat 32 (i 0).val
  let c5_i32 : BitVec 32 := 5#32
  let v6542 : BitVec 1 := Scalar.cmpi .eq arg0 c5_i32
  let v6543 : BitVec 32 := Scalar.extui v6542
  let c0_i32_328 : BitVec 32 := 0#32
  let v6544 : BitVec 1 := Scalar.cmpi .ne v6543 c0_i32_328
  v6544

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x6 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![6], ![false]⟩

def k1_cond4 (i : grid1.Coords) : BitVec 1 :=
  let arg0 : BitVec 32 := BitVec.ofNat 32 (i 0).val
  let c5_i32 : BitVec 32 := 5#32
  let v6542 : BitVec 1 := Scalar.cmpi .eq arg0 c5_i32
  let v6543 : BitVec 32 := Scalar.extui v6542
  let c0_i32_328 : BitVec 32 := 0#32
  let v6544 : BitVec 1 := Scalar.cmpi .ne v6543 c0_i32_328
  v6544

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S128x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S6x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x6 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![4], ![false]⟩

def k2_cond4 (i : grid2.Coords) : BitVec 1 :=
  let arg0 : BitVec 32 := BitVec.ofNat 32 (i 0).val
  let c3_i32 : BitVec 32 := 3#32
  let v6542 : BitVec 1 := Scalar.cmpi .eq arg0 c3_i32
  let v6543 : BitVec 32 := Scalar.extui v6542
  let c0_i32_328 : BitVec 32 := 0#32
  let v6544 : BitVec 1 := Scalar.cmpi .ne v6543 c0_i32_328
  v6544

def k2_cond1 (i : grid2.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S128x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S128x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S6x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x6 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]
-- ==== KernelIdeal.lean ====
variable {F : FTy → Type} [FloatOps F] [Named F]
def κ : String → Option EReal := fun
  | "inv_two_pi" => some (((2 * Real.pi)⁻¹ : ℝ) : EReal)
  | "neg_half_log2e" => some ((-((2 * (Real.log 2))⁻¹) : ℝ) : EReal)
  | _ => none
-- ==== ReferenceIdeal.lean ====
abbrev S1000000x2 : Shape := ⟨2, ![1000000, 2]⟩
abbrev S32x2 : Shape := ⟨2, ![32, 2]⟩
abbrev S32x2x2 : Shape := ⟨3, ![32, 2, 2]⟩
abbrev S32 : Shape := ⟨1, ![32]⟩
abbrev S_ : Shape := ⟨0, ![]⟩
abbrev S32x1x1 : Shape := ⟨3, ![32, 1, 1]⟩
abbrev S1000000x1 : Shape := ⟨2, ![1000000, 1]⟩
abbrev S1000000 : Shape := ⟨1, ![1000000]⟩
abbrev S32x1 : Shape := ⟨2, ![32, 1]⟩
abbrev S1x32 : Shape := ⟨2, ![1, 32]⟩
abbrev S1000000x32 : Shape := ⟨2, ![1000000, 32]⟩
abbrev S32x32 : Shape := ⟨2, ![32, 32]⟩

abbrev nBuf : Space → Nat
  | .hbm => 176
  | .vmem => 0
  | .smem => 0
  | _ => 0

abbrev hbmTy0_0 (i : Nat) : BufTy := match i % 128 with
  | 0 => ⟨S1000000x2, .f32⟩
  | 1 => ⟨S32x2, .f32⟩
  | 2 => ⟨S32x2x2, .f32⟩
  | 3 => ⟨S32, .f32⟩
  | 4 => ⟨S_, .i32⟩
  | 5 => ⟨S32x1x1, .f32⟩
  | 6 => ⟨S32, .f32⟩
  | 7 => ⟨S32x1x1, .f32⟩
  | 8 => ⟨S32, .f32⟩
  | 9 => ⟨S32x1x1, .f32⟩
  | 10 => ⟨S32, .f32⟩
  | 11 => ⟨S32, .f32⟩
  | 12 => ⟨S_, .f32⟩
  | 13 => ⟨S32, .f32⟩
  | 14 => ⟨S32, .f32⟩
  | 15 => ⟨S32, .f32⟩
  | 16 => ⟨S32, .f32⟩
  | 17 => ⟨S32, .f32⟩
  | 18 => ⟨S32, .f32⟩
  | 19 => ⟨S_, .f32⟩
  | 20 => ⟨S32, .f32⟩
  | 21 => ⟨S32, .f32⟩
  | 22 => ⟨S32, .f32⟩
  | 23 => ⟨S32, .f32⟩
  | 24 => ⟨S32, .f32⟩
  | 25 => ⟨S32, .f32⟩
  | 26 => ⟨S32, .f32⟩
  | 27 => ⟨S_, .f32⟩
  | 28 => ⟨S_, .f32⟩
  | 29 => ⟨S_, .f32⟩
  | 30 => ⟨S_, .f32⟩
  | 31 => ⟨S_, .f32⟩
  | 32 => ⟨S32, .f32⟩
  | 33 => ⟨S32, .f32⟩
  | 34 => ⟨S32, .f32⟩
  | 35 => ⟨S32, .f32⟩
  | 36 => ⟨S1000000x1, .f32⟩
  | 37 => ⟨S1000000, .f32⟩
  | 38 => ⟨S1000000x1, .f32⟩
  | 39 => ⟨S32x1, .f32⟩
  | 40 => ⟨S32, .f32⟩
  | 41 => ⟨S1x32, .f32⟩
  | 42 => ⟨S1000000x32, .f32⟩
  | 43 => ⟨S1000000x32, .f32⟩
  | 44 => ⟨S1000000x32, .f32⟩
  | 45 => ⟨S1000000x1, .f32⟩
  | 46 => ⟨S1000000, .f32⟩
  | 47 => ⟨S1000000x1, .f32⟩
  | 48 => ⟨S32x1, .f32⟩
  | 49 => ⟨S32, .f32⟩
  | 50 => ⟨S1x32, .f32⟩
  | 51 => ⟨S1000000x32, .f32⟩
  | 52 => ⟨S1000000x32, .f32⟩
  | 53 => ⟨S1000000x32, .f32⟩
  | 54 => ⟨S1x32, .f32⟩
  | 55 => ⟨S1x32, .f32⟩
  | 56 => ⟨S1x32, .f32⟩
  | 57 => ⟨S_, .f32⟩
  | 58 => ⟨S1x32, .f32⟩
  | 59 => ⟨S1x32, .f32⟩
  | 60 => ⟨S_, .f32⟩
  | 61 => ⟨S1x32, .f32⟩
  | 62 => ⟨S1x32, .f32⟩
  | 63 => ⟨S1x32, .f32⟩
  | 64 => ⟨S1x32, .f32⟩
  | 65 => ⟨S1x32, .f32⟩
  | 66 => ⟨S1000000x32, .f32⟩
  | 67 => ⟨S1000000x32, .f32⟩
  | 68 => ⟨S1000000x32, .f32⟩
  | 69 => ⟨S1000000x32, .f32⟩
  | 70 => ⟨S1000000x32, .f32⟩
  | 71 => ⟨S1000000x32, .f32⟩
  | 72 => ⟨S1000000x32, .f32⟩
  | 73 => ⟨S1000000x32, .f32⟩
  | 74 => ⟨S1000000x32, .f32⟩
  | 75 => ⟨S1000000x32, .f32⟩
  | 76 => ⟨S_, .f32⟩
  | 77 => ⟨S1000000x32, .f32⟩
  | 78 => ⟨S1000000x32, .f32⟩
  | 79 => ⟨S1000000x32, .f32⟩
  | 80 => ⟨S1x32, .f32⟩
  | 81 => ⟨S1000000x32, .f32⟩
  | 82 => ⟨S1000000x32, .f32⟩
  | 83 => ⟨S1x32, .f32⟩
  | 84 => ⟨S1000000x32, .f32⟩
  | 85 => ⟨S1000000x32, .f32⟩
  | 86 => ⟨S_, .f32⟩
  | 87 => ⟨S1000000, .f32⟩
  | 88 => ⟨S1000000, .f32⟩
  | 89 => ⟨S32x1, .f32⟩
  | 90 => ⟨S1x32, .f32⟩
  | 91 => ⟨S32x32, .f32⟩
  | 92 => ⟨S32x32, .f32⟩
  | 93 => ⟨S32x32, .f32⟩
  | 94 => ⟨S32x1, .f32⟩
  | 95 => ⟨S1x32, .f32⟩
  | 96 => ⟨S32x32, .f32⟩
  | 97 => ⟨S32x32, .f32⟩
  | 98 => ⟨S32x32, .f32⟩
  | 99 => ⟨S32x1, .f32⟩
  | 100 => ⟨S1x32, .f32⟩
  | 101 => ⟨S32x32, .f32⟩
  | 102 => ⟨S32x32, .f32⟩
  | 103 => ⟨S32x32, .f32⟩
  | 104 => ⟨S32x1, .f32⟩
  | 105 => ⟨S32, .f32⟩
  | 106 => ⟨S32x1, .f32⟩
  | 107 => ⟨S32x1, .f32⟩
  | 108 => ⟨S32, .f32⟩
  | 109 => ⟨S1x32, .f32⟩
  | 110 => ⟨S32x32, .f32⟩
  | 111 => ⟨S32x32, .f32⟩
  | 112 => ⟨S32x32, .f32⟩
  | 113 => ⟨S32x1, .f32⟩
  | 114 => ⟨S32, .f32⟩
  | 115 => ⟨S32x1, .f32⟩
  | 116 => ⟨S32x1, .f32⟩
  | 117 => ⟨S32, .f32⟩
  | 118 => ⟨S1x32, .f32⟩
  | 119 => ⟨S32x32, .f32⟩
  | 120 => ⟨S32x32, .f32⟩
  | 121 => ⟨S32x32, .f32⟩
  | 122 => ⟨S_, .f32⟩
  | 123 => ⟨S32x32, .f32⟩
  | 124 => ⟨S32x32, .f32⟩
  | 125 => ⟨S_, .f32⟩
  | 126 => ⟨S32x32, .f32⟩
  | 127 => ⟨S32x32, .f32⟩
  | _ => ⟨S1000000x2, .f32⟩

abbrev hbmTy0_1 (i : Nat) : BufTy := match i % 128 with
  | 0 => ⟨S32x32, .f32⟩
  | 1 => ⟨S32x32, .f32⟩
  | 2 => ⟨S32x32, .f32⟩
  | 3 => ⟨S32x32, .f32⟩
  | 4 => ⟨S32x32, .f32⟩
  | 5 => ⟨S32x32, .f32⟩
  | 6 => ⟨S32x32, .f32⟩
  | 7 => ⟨S32x32, .f32⟩
  | 8 => ⟨S32x32, .f32⟩
  | 9 => ⟨S32x32, .f32⟩
  | 10 => ⟨S_, .f32⟩
  | 11 => ⟨S32x32, .f32⟩
  | 12 => ⟨S32x32, .f32⟩
  | 13 => ⟨S32x32, .f32⟩
  | 14 => ⟨S32x32, .f32⟩
  | 15 => ⟨S32x32, .f32⟩
  | 16 => ⟨S32x32, .f32⟩
  | 17 => ⟨S32x32, .f32⟩
  | 18 => ⟨S32x32, .f32⟩
  | 19 => ⟨S32x1, .f32⟩
  | 20 => ⟨S32x32, .f32⟩
  | 21 => ⟨S32x32, .f32⟩
  | 22 => ⟨S1x32, .f32⟩
  | 23 => ⟨S32x32, .f32⟩
  | 24 => ⟨S32x32, .f32⟩
  | 25 => ⟨S_, .f32⟩
  | 26 => ⟨S_, .f32⟩
  | 27 => ⟨S1000000, .f32⟩
  | 28 => ⟨S1000000, .f32⟩
  | 29 => ⟨S1000000, .f32⟩
  | 30 => ⟨S_, .f32⟩
  | 31 => ⟨S_, .f32⟩
  | 32 => ⟨S_, .f32⟩
  | 33 => ⟨S_, .f32⟩
  | 34 => ⟨S_, .i1⟩
  | 35 => ⟨S_, .f32⟩
  | 36 => ⟨S_, .f32⟩
  | 37 => ⟨S_, .f32⟩
  | 38 => ⟨S1000000, .f32⟩
  | 39 => ⟨S1000000, .f32⟩
  | 40 => ⟨S1000000, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | _ => ⟨S1000000x2, .f32⟩

abbrev hbmTy (i : Nat) : BufTy := match i / 128 with
  | 0 => hbmTy0_0 i
  | 1 => hbmTy0_1 i
  | _ => ⟨S1000000x2, .f32⟩

abbrev bufTy : (tb : Table) → Fin (tcTables nBuf tb) → BufTy
  | .hbm, ⟨i, _⟩ => hbmTy i
  | _, _ => ⟨S1000000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_3 : Ref sig .tc := ⟨.hbm, 57, rfl⟩
abbrev main_v48 : Ref sig .tc := ⟨.hbm, 58, rfl⟩
abbrev main_v49 : Ref sig .tc := ⟨.hbm, 59, rfl⟩
abbrev main_cst_4 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_cst_5 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_cst_6 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_cst_7 : Ref sig .tc := ⟨.hbm, 122, rfl⟩
abbrev main_v109 : Ref sig .tc := ⟨.hbm, 123, rfl⟩
abbrev main_v110 : Ref sig .tc := ⟨.hbm, 124, rfl⟩
abbrev main_cst_8 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_cst_9 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_cst_10 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_cst_11 : Ref sig .tc := ⟨.hbm, 158, rfl⟩
abbrev main_v141 : Ref sig .tc := ⟨.hbm, 159, rfl⟩
abbrev main_v142 : Ref sig .tc := ⟨.hbm, 160, rfl⟩
abbrev main_cst_12 : Ref sig .tc := ⟨.hbm, 161, rfl⟩
abbrev main_v143 : Ref sig .tc := ⟨.hbm, 162, rfl⟩
abbrev main_cst_13 : Ref sig .tc := ⟨.hbm, 163, rfl⟩
abbrev main_call0_v0 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_cst_14 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_cst_15 : Ref sig .tc := ⟨.hbm, 173, rfl⟩
abbrev main_v151 : Ref sig .tc := ⟨.hbm, 174, rfl⟩
abbrev main_v152 : Ref sig .tc := ⟨.hbm, 175, rfl⟩

abbrev nD : Nat := 1
abbrev τ : Topo := Topo.v7x

variable {F : FTy → Type} [FloatOps F]
-- ==== Proof.Kernel.Unfold0.lean ====
/-
  The printed bodies of the regions are the loops of `Body`.
-/
module

public import proofs.«01_k».proof.Proof.Kernel.Body
import Idealize.ShloMosaic.Lib.Tactic

@[expose] public section

set_option maxRecDepth 65536

namespace Cert.Kernel.Own

open Idealize.ShloMosaic Idealize.SL.Sem
open Cert.Kernel

variable {F : FTy → Type} [FloatOps F] [Facts]

/-- The two constants, as the program holds them. -/
noncomputable abbrev hK : F .f32 := Scalar.ofBits .f32 0xBF38AA3B#32
noncomputable abbrev uK : F .f32 := Scalar.ofBits .f32 0x3E22F983#32

theorem body0 (i : grid0.Coords) (arg1 arg2 : Memref sig .tc .vmem S128x512 .f32) (harg1 : arg1.IsWhole) (harg2 : arg2.IsWhole)
    (arg3 : Memref sig .tc .vmem S6x32 .f32) (harg3 : arg3.IsWhole) (arg4 : Memref sig .tc .vmem S32x6 .f32) (harg4 : arg4.IsWhole)
    (arg5 arg6 : Memref sig .tc .vmem S1x1 .f32) (harg5 : arg5.IsWhole) (harg6 : arg6.IsWhole)
    (arg7 : Memref sig .tc .vmem S8x512 .f32) (harg7 : arg7.IsWhole) (arg8 : Memref sig .tc .smem S4x32 .f32) (harg8 : arg8.IsWhole) :
    cc0_nmsq_gm_nll (F := F) i arg1 harg1 arg2 harg2 arg3 harg3 arg4 harg4 arg5 harg5 arg6 harg6 arg7 harg7 arg8 harg8
      = body hK uK 393216#32 5#32 (BitVec.ofNat 32 (i 0).val) arg1 arg2 arg3 arg4 arg5 arg6 arg7 arg8 := by
  by_cases h : k0_cond1 i = 1#1
  · have h' : isEq (BitVec.ofNat 32 (i 0).val) 0#32 = 1#1 := h
    unfold cc0_nmsq_gm_nll k0_part131 k0_part16 body
    rw [dif_pos h, if_pos h']
    sl_kernel_rfl
  · have h' : ¬ isEq (BitVec.ofNat 32 (i 0).val) 0#32 = 1#1 := h
    unfold cc0_nmsq_gm_nll k0_part131 k0_part16 body
    rw [dif_neg h, if_neg h']
    sl_kernel_rfl

end Cert.Kernel.Own
-- ==== Proof.KernelIdeal.Body.lean ====
/-
  One grid point of the kernel, written as loops: the table of coefficients, the sixteen groups of eight rows,
  and the three conditional steps. The printed bodies of the three regions unfold to it.
-/
module

public import proofs.«01_k».proof.KernelIdeal
public import Idealize.ShloMosaic.Lib.Exec

@[expose] public section

set_option maxRecDepth 16384

noncomputable section

namespace Cert.KernelIdeal.Own

open Idealize.ShloMosaic Idealize.SL.Sem
open Cert.KernelIdeal

variable {F : FTy → Type} [FloatOps F] [Named F] [Facts]
open Facts₀ Facts

/-! ## The values -/

/-- The float one, as the kernel writes it. -/
def one : F .f32 := Scalar.ofBits .f32 0x3F800000#32

/-- The float zero, as the kernel writes it. -/
def zero : F .f32 := Scalar.ofBits .f32 0x00000000#32

/-- The upper left entry of the factor, over any shape. -/
def chol00 {s : Shape} (c00 : FVec F s .f32) : FVec F s .f32 :=
  sqrt (addf (mulf c00 c00) (broadcast s one))

/-- The lower left entry of the factor. -/
def chol10 {s : Shape} (c00 c10 : FVec F s .f32) : FVec F s .f32 :=
  divf (mulf c00 c10) (chol00 c00)

/-- The lower right entry of the factor. -/
def chol11 {s : Shape} (c00 c10 c11 : FVec F s .f32) : FVec F s .f32 :=
  sqrt (subf (addf (addf (mulf c10 c10) (mulf c11 c11)) (broadcast s one)) (mulf (chol10 c00 c10) (chol10 c00 c10)))

/-- Row `r` of the six parameter rows. -/
def prow (pr : Vec F S6x32 .f32) (r : ℕ) (h : S6x32.Slices ![r, 0] S1x32) : FVec F S1x32 .f32 :=
  extractStridedSlice S1x32 ![r, 0] (shapeCast S6x32 pr shapeCasts_S6x32_S6x32) h

/-- Column `r` of the six parameter columns. -/
def pcol (pc : Vec F S32x6 .f32) (r : ℕ) (h : S32x6.Slices ![0, r] S32x1) : FVec F S32x1 .f32 :=
  extractStridedSlice S32x1 ![0, r] (shapeCast S32x6 pc shapeCasts_S32x6_S32x6) h

/-- The table's first row: the scaled reciprocals of the upper left entries. -/
def rowA (h : F .f32) (pr : Vec F S6x32 .f32) : FVec F S1x32 .f32 :=
  mulf (broadcast S1x32 h) (divf (broadcast S1x32 one) (chol00 (prow pr 0 slices_S6x32_o0_0_S1x32)))

/-- Its third row: the scaled reciprocals of the lower right entries. -/
def rowC (h : F .f32) (pr : Vec F S6x32 .f32) : FVec F S1x32 .f32 :=
  mulf (broadcast S1x32 h) (divf (broadcast S1x32 one)
    (chol11 (prow pr 0 slices_S6x32_o0_0_S1x32) (prow pr 1 slices_S6x32_o1_0_S1x32) (prow pr 2 slices_S6x32_o2_0_S1x32)))

/-- Its second row: the scaled lower left entries of the inverses. -/
def rowB (h : F .f32) (pr : Vec F S6x32 .f32) : FVec F S1x32 .f32 :=
  mulf (broadcast S1x32 h) (subf (broadcast S1x32 zero)
    (mulf (mulf (chol10 (prow pr 0 slices_S6x32_o0_0_S1x32) (prow pr 1 slices_S6x32_o1_0_S1x32))
        (divf (broadcast S1x32 one) (chol00 (prow pr 0 slices_S6x32_o0_0_S1x32))))
      (divf (broadcast S1x32 one)
        (chol11 (prow pr 0 slices_S6x32_o0_0_S1x32) (prow pr 1 slices_S6x32_o1_0_S1x32) (prow pr 2 slices_S6x32_o2_0_S1x32)))))

/-- Its fourth row: the weights over the normalisations. -/
def rowW (u : F .f32) (pr : Vec F S6x32 .f32) : FVec F S1x32 .f32 :=
  mulf (mulf (prow pr 5 slices_S6x32_o5_0_S1x32) (broadcast S1x32 u))
    (rsqrt (mulf (chol00 (prow pr 0 slices_S6x32_o0_0_S1x32))
      (chol11 (prow pr 0 slices_S6x32_o0_0_S1x32) (prow pr 1 slices_S6x32_o1_0_S1x32) (prow pr 2 slices_S6x32_o2_0_S1x32))))

theorem slices_word (k : Fin 32) : S1x32.Slices ![0, k.val] S1x1 := by
  revert k; decide

theorem inb_word (r : Fin 4) (k : Fin 32) : ∀ a, (![r.val, k.val] : Fin 2 → Nat) a + S1x1.size a ≤ S4x32.size a := by
  revert r k; decide

theorem inb_rows (g : Fin 16) : ∀ a, (![8 * g.val, 0] : Fin 2 → Nat) a + S8x512.size a ≤ S128x512.size a := by
  revert g; decide

/-- The word of a row at a cluster. -/
def word (row : FVec F S1x32 .f32) (k : Fin 32) : F .f32 :=
  extractAt ![0, 0] (extractStridedSlice S1x1 ![0, k.val] row (slices_word k)) inpos_S1x1_p0_0

/-- The pairwise term's sum, from the six rows and the six columns of parameters. -/
def zval (h u : F .f32) (pr : Vec F S6x32 .f32) (pc : Vec F S32x6 .f32) : FVec F S1x1 .f32 :=
  let l00c := chol00 (pcol pc 0 slices_S32x6_o0_0_S32x1)
  let l10c := chol10 (pcol pc 0 slices_S32x6_o0_0_S32x1) (pcol pc 1 slices_S32x6_o0_1_S32x1)
  let l11c := chol11 (pcol pc 0 slices_S32x6_o0_0_S32x1) (pcol pc 1 slices_S32x6_o0_1_S32x1) (pcol pc 2 slices_S32x6_o0_2_S32x1)
  let l00r := chol00 (prow pr 0 slices_S6x32_o0_0_S1x32)
  let l10r := chol10 (prow pr 0 slices_S6x32_o0_0_S1x32) (prow pr 1 slices_S6x32_o1_0_S1x32)
  let l11r := chol11 (prow pr 0 slices_S6x32_o0_0_S1x32) (prow pr 1 slices_S6x32_o1_0_S1x32) (prow pr 2 slices_S6x32_o2_0_S1x32)
  let m00 := addf (broadcastTo S32x32 l00c broadcasts_S32x1_S32x32) (broadcastTo S32x32 l00r broadcasts_S1x32_S32x32)
  let m10 := addf (broadcastTo S32x32 l10c broadcasts_S32x1_S32x32) (broadcastTo S32x32 l10r broadcasts_S1x32_S32x32)
  let m11 := addf (broadcastTo S32x32 l11c broadcasts_S32x1_S32x32) (broadcastTo S32x32 l11r broadcasts_S1x32_S32x32)
  let d0 := subf (broadcastTo S32x32 (pcol pc 3 slices_S32x6_o0_3_S32x1) broadcasts_S32x1_S32x32)
    (broadcastTo S32x32 (prow pr 3 slices_S6x32_o3_0_S1x32) broadcasts_S1x32_S32x32)
  let d1 := subf (broadcastTo S32x32 (pcol pc 4 slices_S32x6_o0_4_S32x1) broadcasts_S32x1_S32x32)
    (broadcastTo S32x32 (prow pr 4 slices_S6x32_o4_0_S1x32) broadcasts_S1x32_S32x32)
  let r00 := divf (broadcast S32x32 one) m00
  let r11 := divf (broadcast S32x32 one) m11
  let qz := addf (subf (mulf (mulf d0 d0) r00) (mulf (mulf (mulf (mulf m10 r00) r11) d0) d1)) (mulf (mulf d1 d1) r11)
  let zt := mulf (mulf (exp2 (mulf (broadcast S32x32 h) qz)) (broadcast S32x32 u)) (rsqrt (mulf m00 m11))
  let ww := mulf (broadcastTo S32x32 (pcol pc 5 slices_S32x6_o0_5_S32x1) broadcasts_S32x1_S32x32)
    (broadcastTo S32x32 (prow pr 5 slices_S6x32_o5_0_S1x32) broadcasts_S1x32_S32x32)
  broadcast S1x1 (extractAt ![0, 0, 0] (shapeCast S1x1x1
    (multiReduction .add [1, 2] S1 (shapeCast S1x32x32 (mulf zt ww) shapeCasts_S32x32_S1x32x32) 0x00000000#32
      reduces_S1x32x32_S1 (.inl rfl) rfl) shapeCasts_S1_S1x1x1) inpos_S1x1x1_p0_0_0)

/-- The sum of the accumulator's elements. -/
def total (acc : Vec F S8x512 .f32) : FVec F S1x1 .f32 :=
  broadcast S1x1 (extractAt ![0, 0, 0] (shapeCast S1x1x1
    (multiReduction .add [1, 2] S1 (shapeCast S1x8x512 acc shapeCasts_S8x512_S1x8x512) 0x00000000#32
      reduces_S1x8x512_S1 (.inl rfl) rfl) shapeCasts_S1_S1x1x1) inpos_S1x1x1_p0_0_0)

/-- Four coefficients of one cluster. -/
abbrev Quad (F : FTy → Type) := Elt F .f32 × Elt F .f32 × Elt F .f32 × Elt F .f32

/-- One cluster's weighted density over a group of points, from the three products of their coordinates. -/
def term (p0 p1 p2 : FVec F S8x512 .f32) (q : Quad F) : FVec F S8x512 .f32 :=
  mulf (broadcast S8x512 q.2.2.2) (exp2 (addf (addf (mulf p0 (broadcast S8x512 q.1)) (mulf p1 (broadcast S8x512 q.2.1)))
    (mulf p2 (broadcast S8x512 q.2.2.1))))

/-- The sum over the clusters, the even and the odd ones apart. -/
def accum (p0 p1 p2 : FVec F S8x512 .f32) : FVec F S8x512 .f32 → FVec F S8x512 .f32 → List (Quad F) → FVec F S8x512 .f32
  | sa, sb, a :: b :: r => accum p0 p1 p2 (addf sa (term p0 p1 p2 a)) (addf sb (term p0 p1 p2 b)) r
  | sa, sb, _ => addf sa sb

/-- The sum over the clusters, from the first two on. -/
def mixture (p0 p1 p2 : FVec F S8x512 .f32) : List (Quad F) → FVec F S8x512 .f32
  | a :: b :: r => accum p0 p1 p2 (term p0 p1 p2 a) (term p0 p1 p2 b) r
  | _ => broadcast S8x512 zero

/-- The position of a point in its group: row times the width, plus lane. -/
def rel : IVec S8x512 32 :=
  addi (muli (iota .tc S8x512 32 [0] iota_S8x512_d0_w32) (broadcast S8x512 512#32)) (iota .tc S8x512 32 [1] iota_S8x512_d1_w32)

/-- The squared mixture of one group of points, zero where a point's number is not below `n`. -/
def square (n arg0 : BitVec 32) (ts : List (Quad F)) (g : Fin 16) (x0 x1 : Vec F S8x512 .f32) : FVec F S8x512 .f32 :=
  let y0 : FVec F S8x512 .f32 := shapeCast S8x512 x0 shapeCasts_S8x512_S8x512
  let y1 : FVec F S8x512 .f32 := shapeCast S8x512 x1 shapeCasts_S8x512_S8x512
  let s := mixture (mulf y0 y0) (mulf y0 y1) (mulf y1 y1) ts
  let m := select (cmpi .slt (addi (broadcast S8x512 (Scalar.muli (Scalar.addi (Scalar.muli arg0 128#32) (BitVec.ofNat 32 (8 * g.val))) 512#32)) rel)
    (broadcast S8x512 n)) s (broadcast S8x512 zero)
  mulf m m

/-! ## The program -/

/-- All the clusters, in order. -/
def clusters : List (Fin 32) :=
  [0, 1, 2, 3, 4, 5, 6, 7, 8, 9, 10, 11, 12, 13, 14, 15, 16, 17, 18, 19, 20, 21, 22, 23, 24, 25, 26, 27, 28, 29, 30, 31]

/-- The groups after the first. -/
def laterGroups : List (Fin 16) := [1, 2, 3, 4, 5, 6, 7, 8, 9, 10, 11, 12, 13, 14, 15]

/-- The word of the table at a row and a cluster. -/
abbrev wordAt (r : Fin 4) (k : Fin 32) : Rect S4x32 := Rect.unit (s := S4x32) ![r.val, k.val] S1x1.size (inb_word r k)

/-- The group's rows of the block. -/
abbrev rowsAt (g : Fin 16) : Rect S128x512 := Rect.unit (s := S128x512) ![8 * g.val, 0] S8x512.size (inb_rows g)

/-- Store one row of the table, word by word. -/
def storeRow (arg8 : Memref sig .tc .smem S4x32 .f32) (r : Fin 4) (row : FVec F S1x32 .f32) :
    List (Fin 32) → Prog (TpuEff nD τ sig (Elt F) Λ₀ .tc) PUnit
  | [] => pure ⟨⟩
  | k :: ks => do
    let _ : Elt F .f32 ← smemLoad arg8 (wordAt r k) numel1_S1x1 rfl
    Prog.lift (.store arg8 (wordAt r k) (fun _ => word row k) Finset.univ (View.stores_smem_one rfl numel1_S1x1) (.inl rfl))
    storeRow arg8 r row ks

/-- Load the table, cluster by cluster. -/
def loadTable (arg8 : Memref sig .tc .smem S4x32 .f32) : List (Fin 32) → Prog (TpuEff nD τ sig (Elt F) Λ₀ .tc) (List (Quad F))
  | [] => pure []
  | k :: ks => do
    let a : Elt F .f32 ← smemLoad arg8 (wordAt 0 k) numel1_S1x1 rfl
    let b : Elt F .f32 ← smemLoad arg8 (wordAt 1 k) numel1_S1x1 rfl
    let c : Elt F .f32 ← smemLoad arg8 (wordAt 2 k) numel1_S1x1 rfl
    let w : Elt F .f32 ← smemLoad arg8 (wordAt 3 k) numel1_S1x1 rfl
    let r ← loadTable arg8 ks
    pure ((a, b, c, w) :: r)

/-- One group's squares, its rows loaded. -/
def group (n arg0 : BitVec 32) (arg1 arg2 : Memref sig .tc .vmem S128x512 .f32) (ts : List (Quad F)) (g : Fin 16) :
    Prog (TpuEff nD τ sig (Elt F) Λ₀ .tc) (FVec F S8x512 .f32) := do
  let x0 : Vec F S8x512 .f32 ← Prog.lift (.load arg1 (rowsAt g).toLoadRect (View.loadsAt_vmem h_S8x512))
  let x1 : Vec F S8x512 .f32 ← Prog.lift (.load arg2 (rowsAt g).toLoadRect (View.loadsAt_vmem h_S8x512))
  pure (square n arg0 ts g x0 x1)

/-- The groups' squares added to `acc`, one after the other. -/
def groups (n arg0 : BitVec 32) (arg1 arg2 : Memref sig .tc .vmem S128x512 .f32) (ts : List (Quad F)) :
    FVec F S8x512 .f32 → List (Fin 16) → Prog (TpuEff nD τ sig (Elt F) Λ₀ .tc) (FVec F S8x512 .f32)
  | acc, [] => pure acc
  | acc, g :: gs => do
    let s ← group n arg0 arg1 arg2 ts g
    groups n arg0 arg1 arg2 ts (addf acc s) gs

/-- The whole of a 6×32 block, and of the others. -/
abbrev all6x32 : Rect S6x32 := Rect.unit (s := S6x32) ![0, 0] S6x32.size inb_S6x32_S6x32_0_0
abbrev all32x6 : Rect S32x6 := Rect.unit (s := S32x6) ![0, 0] S32x6.size inb_S32x6_S32x6_0_0
abbrev all1x1 : Rect S1x1 := Rect.unit (s := S1x1) ![0, 0] S1x1.size inb_S1x1_S1x1_0_0
abbrev all8x512 : Rect S8x512 := Rect.unit (s := S8x512) ![0, 0] S8x512.size inb_S8x512_S8x512_0_0

/-- Whether a word is the given one, as the kernel computes a condition. -/
def isEq (a b : BitVec 32) : BitVec 1 := Scalar.cmpi .ne (Scalar.extui (Scalar.cmpi .eq a b) : BitVec 32) 0#32
def isPos (a : BitVec 32) : BitVec 1 := Scalar.cmpi .ne (Scalar.extui (Scalar.cmpi .sgt a 0#32) : BitVec 32) 0#32

/-- The first point's preparation: the table and the pairwise sum. -/
def prep (h u : F .f32) (arg3 : Memref sig .tc .vmem S6x32 .f32) (arg4 : Memref sig .tc .vmem S32x6 .f32)
    (arg6 : Memref sig .tc .vmem S1x1 .f32) (arg8 : Memref sig .tc .smem S4x32 .f32) :
    Prog (TpuEff nD τ sig (Elt F) Λ₀ .tc) PUnit := do
  let pr : Vec F S6x32 .f32 ← Prog.lift (.load arg3 all6x32.toLoadRect (View.loadsAt_vmem h_S6x32))
  storeRow arg8 0 (rowA h pr) clusters
  storeRow arg8 1 (rowB h pr) clusters
  storeRow arg8 2 (rowC h pr) clusters
  storeRow arg8 3 (rowW u pr) clusters
  let pc : Vec F S32x6 .f32 ← Prog.lift (.load arg4 all32x6.toLoadRect (View.loadsAt_vmem h_S32x6))
  let _ : Vec F S1x1 .f32 ← Prog.lift (.load arg6 all1x1.toLoadRect (View.loadsAt_vmem h_S1x1))
  Prog.lift (.store arg6 all1x1 (zval h u pr pc) Finset.univ (View.stores_vmem_bits_univ h_S1x1 rfl) (.inl rfl))
  pure ⟨⟩

/-- The first point's initialisation of the accumulator. -/
def initAcc (arg7 : Memref sig .tc .vmem S8x512 .f32) (acc : FVec F S8x512 .f32) :
    Prog (TpuEff nD τ sig (Elt F) Λ₀ .tc) PUnit := do
  let _ : Vec F S8x512 .f32 ← Prog.lift (.load arg7 all8x512.toLoadRect (View.loadsAt_vmem h_S8x512))
  Prog.lift (.store arg7 all8x512 (shapeCast S8x512 acc shapeCasts_S8x512_S8x512) Finset.univ (View.stores_vmem_bits_univ h_S8x512 rfl) (.inl rfl))
  pure ⟨⟩

/-- The later points' addition to the accumulator. -/
def addAcc (arg7 : Memref sig .tc .vmem S8x512 .f32) (acc : FVec F S8x512 .f32) :
    Prog (TpuEff nD τ sig (Elt F) Λ₀ .tc) PUnit := do
  let a : Vec F S8x512 .f32 ← Prog.lift (.load arg7 all8x512.toLoadRect (View.loadsAt_vmem h_S8x512))
  let _ : Vec F S8x512 .f32 ← Prog.lift (.load arg7 all8x512.toLoadRect (View.loadsAt_vmem h_S8x512))
  Prog.lift (.store arg7 all8x512 (shapeCast S8x512 (addf a acc) shapeCasts_S8x512_S8x512) Finset.univ (View.stores_vmem_bits_univ h_S8x512 rfl) (.inl rfl))
  pure ⟨⟩

/-- The last point's sum of the accumulator. -/
def flush (arg5 : Memref sig .tc .vmem S1x1 .f32) (arg7 : Memref sig .tc .vmem S8x512 .f32) :
    Prog (TpuEff nD τ sig (Elt F) Λ₀ .tc) PUnit := do
  let a : Vec F S8x512 .f32 ← Prog.lift (.load arg7 all8x512.toLoadRect (View.loadsAt_vmem h_S8x512))
  let _ : Vec F S1x1 .f32 ← Prog.lift (.load arg5 all1x1.toLoadRect (View.loadsAt_vmem h_S1x1))
  Prog.lift (.store arg5 all1x1 (total a) Finset.univ (View.stores_vmem_bits_univ h_S1x1 rfl) (.inl rfl))
  pure ⟨⟩

/-- One grid point of a region of `last + 1` points over `n` data points. -/
def body (h u : F .f32) (n last arg0 : BitVec 32) (arg1 arg2 : Memref sig .tc .vmem S128x512 .f32)
    (arg3 : Memref sig .tc .vmem S6x32 .f32) (arg4 : Memref sig .tc .vmem S32x6 .f32)
    (arg5 arg6 : Memref sig .tc .vmem S1x1 .f32) (arg7 : Memref sig .tc .vmem S8x512 .f32)
    (arg8 : Memref sig .tc .smem S4x32 .f32) : Prog (TpuEff nD τ sig (Elt F) Λ₀ .tc) PUnit := do
  if isEq arg0 0#32 = 1#1 then prep h u arg3 arg4 arg6 arg8 else pure ⟨⟩
  let ts ← loadTable arg8 clusters
  let s0 ← group n arg0 arg1 arg2 ts 0
  let acc ← groups n arg0 arg1 arg2 ts s0 laterGroups
  if isEq arg0 0#32 = 1#1 then initAcc arg7 acc else pure ⟨⟩
  if isPos arg0 = 1#1 then addAcc arg7 acc else pure ⟨⟩
  if isEq arg0 last = 1#1 then flush arg5 arg7 else pure ⟨⟩

end Cert.KernelIdeal.Own
end
-- ==== Proof.KernelIdeal.Wp.lean ====
/-
  What one grid point does, as a rule of the program logic: the memory before and after, over owned memrefs.
-/
module

public import proofs.«01_k».proof.Proof.KernelIdeal.Body
public import Idealize.ShloMosaic.Lib.Pipeline.Frame
public import Idealize.ShloMosaic.Lib.Tactic

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal

variable {F : FTy → Type} [FloatOps F] [Named F] [Facts]
open Facts₀ Facts

local notation "𝕄" => MT nD τ sig Unit (Elt F) ℕ (UR sig nD τ) ℕ

/-! ## Loads and stores of owned memrefs -/

section Rules

variable (c : Dev nD) (E : Set ℕ) {s : Shape} {e : EltTy} {cs : CoreSpace} {α : Type}

/-- A load of a rectangle of an owned memref. -/
theorem wp_load_owns (Q : α → sProp 𝕄) {m : Memref sig .tc cs s e} {r : Rect s} {hl : m.view.LoadsAt r.toLoadRect}
    {k : (r.shape.Idx → Elt F e) → Prog (TpuEff nD τ sig (Elt F) Λ₀ .tc) α} {X : s.Idx → Elt F e} :
    (owns (c : Thread nD τ) m fullShare X : sProp 𝕄)
      ⊢ iprop((owns (c : Thread nD τ) m fullShare X -∗ wp frame (wpE (defs₀ (F := F)) Variants.none c none) E (k fun x => X (r.emb x)) Q)
        -∗ wp frame (wpE (defs₀ (F := F)) Variants.none c none) E (.op (.load m r.toLoadRect hl) k) Q) := by
  unfold owns
  iintro ⟨%f, %hf, H⟩ Hk
  subst hf
  iapply (wp_load (defs := defs₀ (F := F)) Variants.none (c : Thread nD τ) none E (Q := Q) (hl := hl) (k := k)
    (m.view.setOn_subset_set _)) $$ H
  iintro H
  iapply Hk
  iexists f
  isplitr; · ipureintro; rfl
  iexact H

/-- An unmasked store of a rectangle of an owned memref: what it holds afterwards reads `Y`, if `Y` is the stored
    values on the rectangle and the earlier contents off it. -/
theorem wp_store_owns (Q : α → sProp 𝕄) {m : Memref sig .tc cs s e} {r : Rect s} {w : r.shape.Idx → Elt F e}
    {hx : (m.access r).Stores Finset.univ} {hm : Finset.univ = Finset.univ ∨ ∀ a, r.stride a = 1}
    {k : PUnit → Prog (TpuEff nD τ sig (Elt F) Λ₀ .tc) α} {X : s.Idx → Elt F e} (Y : s.Idx → Elt F e)
    (hin : ∀ x, Y (r.emb x) = w x) (hout : ∀ y, y ∉ r.set → Y y = X y) :
    (owns (c : Thread nD τ) m fullShare X : sProp 𝕄)
      ⊢ iprop((owns (c : Thread nD τ) m fullShare Y -∗ wp frame (wpE (defs₀ (F := F)) Variants.none c none) E (k ⟨⟩) Q)
        -∗ wp frame (wpE (defs₀ (F := F)) Variants.none c none) E (.op (.store m r w Finset.univ hx hm) k) Q) := by
  unfold owns
  iintro ⟨%f, %hf, H⟩ Hk
  subst hf
  iapply (wp_store_writes₀ (defs := defs₀ (F := F)) Variants.none (c : Thread nD τ) none E (Q := Q) (w := w) (hx := hx) (hm := hm) (k := k)
    (View.set_slice_subset _ _)) $$ H
  iintro H
  iapply Hk
  iexists _
  isplitr; swap; · iexact H
  ipureintro
  funext y
  by_cases hy : y ∈ r.set
  · obtain ⟨x, rfl⟩ := r.toLoadRect.exists_idx_of_mem hy
    exact (View.read_writes_cons_emb _ _ _ _ _ _).trans (hin x).symm
  · rw [View.read_writes_cons_miss _ _ _ _ _ hy, View.writes_nil, hout y hy]

end Rules

/-! ## The table -/

/-- The table at some contents, after one row's words at `ks` have been stored. -/
def setRow (X : Vec F S4x32 .f32) (r : Fin 4) (row : FVec F S1x32 .f32) (ks : List (Fin 32)) : Vec F S4x32 .f32 :=
  fun j => if (j 0).val = r.val ∧ (⟨(j 1).val, (j 1).isLt⟩ : Fin 32) ∈ ks then word row ⟨(j 1).val, (j 1).isLt⟩ else X j

/-- The table of four rows. -/
def table (A B C W : FVec F S1x32 .f32) : Vec F S4x32 .f32 :=
  fun j => word (if (j 0).val = 0 then A else if (j 0).val = 1 then B else if (j 0).val = 2 then C else W) ⟨(j 1).val, (j 1).isLt⟩

/-- The table's index at a row and a cluster. -/
def tix (r : Fin 4) (k : Fin 32) : S4x32.Idx := fun a => match a with
  | 0 => r
  | 1 => k

theorem wordAt_emb (r : Fin 4) (k : Fin 32) (x : (wordAt r k).shape.Idx) : (wordAt r k).emb x = tix r k := by
  funext a
  apply Fin.ext
  have h0 : (x 0).val = 0 := Nat.lt_one_iff.mp (x 0).isLt
  have h1 : (x 1).val = 0 := Nat.lt_one_iff.mp (x 1).isLt
  match a with
  | 0 => rw [Rect.emb_apply]; show r.val + 1 * (x 0).val = r.val; rw [h0]; omega
  | 1 => rw [Rect.emb_apply]; show k.val + 1 * (x 1).val = k.val; rw [h1]; omega

theorem setRow_cons (X : Vec F S4x32 .f32) (r : Fin 4) (row : FVec F S1x32 .f32) (k : Fin 32) (ks : List (Fin 32)) :
    setRow (setRow X r row [k]) r row ks = setRow X r row (k :: ks) := by
  funext j
  unfold setRow
  by_cases h : (j 0).val = r.val
  · by_cases h1 : (⟨(j 1).val, (j 1).isLt⟩ : Fin 32) ∈ ks
    · rw [if_pos ⟨h, h1⟩, if_pos ⟨h, List.mem_cons_of_mem _ h1⟩]
    · rw [if_neg (fun hh => h1 hh.2)]
      by_cases h2 : (⟨(j 1).val, (j 1).isLt⟩ : Fin 32) = k
      · rw [if_pos ⟨h, by rw [h2]; exact List.mem_singleton.mpr rfl⟩, if_pos ⟨h, by rw [h2]; exact List.mem_cons_self⟩]
      · rw [if_neg (fun hh => h2 (List.mem_singleton.mp hh.2)), if_neg (fun hh => (List.mem_cons.mp hh.2).elim h2 h1)]
  · rw [if_neg (fun hh => h hh.1), if_neg (fun hh => h hh.1), if_neg (fun hh => h hh.1)]

theorem mem_clusters (k : Fin 32) : k ∈ clusters := by revert k; decide

/-- The four rows stored one after the other leave the table. -/
theorem setRow_table (X : Vec F S4x32 .f32) (A B C W : FVec F S1x32 .f32) :
    setRow (setRow (setRow (setRow X 0 A clusters) 1 B clusters) 2 C clusters) 3 W clusters = table A B C W := by
  funext j
  have h4 : (j 0).val < 4 := (j 0).isLt
  unfold setRow table
  simp only [mem_clusters, and_true]
  rcases (by omega : (j 0).val = 0 ∨ (j 0).val = 1 ∨ (j 0).val = 2 ∨ (j 0).val = 3) with h | h | h | h <;> rw [h] <;> rfl

/-- A cluster's four coefficients in a table. -/
abbrev quadOf (X : Vec F S4x32 .f32) (k : Fin 32) : Quad F := (X (tix 0 k), X (tix 1 k), X (tix 2 k), X (tix 3 k))

section Steps

variable (c : Dev nD) (E : Set ℕ)

theorem wp_word (arg8 : Memref sig .tc .smem S4x32 .f32) (X : Vec F S4x32 .f32) (r : Fin 4) (k : Fin 32) (Q : Elt F .f32 → sProp 𝕄) :
    (owns (c : Thread nD τ) arg8 fullShare X : sProp 𝕄)
      ⊢ iprop((owns (c : Thread nD τ) arg8 fullShare X -∗ Q (X (tix r k)))
        -∗ wp frame (wpE (defs₀ (F := F)) Variants.none c none) E (smemLoad arg8 (wordAt r k) numel1_S1x1 rfl) Q) := by
  unfold smemLoad smemLoadElt
  iintro H Hk
  iapply (wp_load_owns c E Q (m := arg8) (r := wordAt r k) (X := X)) $$ H
  iintro H
  rw [show (fun x => X ((wordAt r k).emb x)) = fun _ => X (tix r k) from funext fun x => by rw [wordAt_emb]]
  iapply (le_wp_ret _ _ _ _ _)
  iapply Hk
  iexact H

theorem wp_storeRow (arg8 : Memref sig .tc .smem S4x32 .f32) (r : Fin 4) (row : FVec F S1x32 .f32) (Q : PUnit → sProp 𝕄) :
    ∀ (ks : List (Fin 32)) (X : Vec F S4x32 .f32),
      (owns (c : Thread nD τ) arg8 fullShare X : sProp 𝕄)
        ⊢ iprop((owns (c : Thread nD τ) arg8 fullShare (setRow X r row ks) -∗ Q ⟨⟩)
          -∗ wp frame (wpE (defs₀ (F := F)) Variants.none c none) E (storeRow arg8 r row ks) Q)
  | [], X => by
    have : setRow X r row [] = X := by
      funext j; unfold setRow; rw [if_neg (fun h => List.not_mem_nil h.2)]
    rw [this]
    unfold storeRow
    iintro H Hk
    iapply (le_wp_ret _ _ _ _ _)
    iapply Hk
    iexact H
  | k :: ks, X => by
    unfold storeRow
    rw [wp_bind]
    iintro H Hk
    iapply (wp_word c E arg8 X r k) $$ H
    iintro H
    rw [wp_bind]
    iapply (wp_store_owns c E (X := X) _ (setRow X r row [k])
      (fun x => by
        rw [wordAt_emb]; unfold setRow
        rw [if_pos ⟨rfl, List.mem_singleton.mpr rfl⟩]; rfl)
      (fun y hy => by
        unfold setRow
        refine if_neg fun h => hy ?_
        have hk : (y 1).val = k.val := congrArg Fin.val (List.mem_singleton.mp h.2)
        refine Rect.mem_set_unit.mpr fun a => ?_
        match a with
        | 0 => exact ⟨le_of_eq h.1.symm, by show (y 0).val < r.val + 1; omega⟩
        | 1 => exact ⟨le_of_eq hk.symm, by show (y 1).val < k.val + 1; omega⟩)) $$ H
    iintro H
    iapply (le_wp_ret _ _ _ _ _)
    rw [← setRow_cons]
    iapply (wp_storeRow arg8 r row Q ks (setRow X r row [k])) $$ H
    iexact Hk

theorem wp_loadTable (arg8 : Memref sig .tc .smem S4x32 .f32) (X : Vec F S4x32 .f32) :
    ∀ (ks : List (Fin 32)) (Q : List (Quad F) → sProp 𝕄),
      (owns (c : Thread nD τ) arg8 fullShare X : sProp 𝕄)
        ⊢ iprop((owns (c : Thread nD τ) arg8 fullShare X -∗ Q (ks.map (quadOf X)))
          -∗ wp frame (wpE (defs₀ (F := F)) Variants.none c none) E (loadTable arg8 ks) Q)
  | [], Q => by
    unfold loadTable
    rw [List.map_nil]
    iintro H Hk
    iapply (le_wp_ret _ _ _ _ _)
    iapply Hk
    iexact H
  | k :: ks, Q => by
    unfold loadTable
    rw [List.map_cons]
    iintro H Hk
    rw [wp_bind]
    iapply (wp_word c E arg8 X 0 k) $$ H
    iintro H
    rw [wp_bind]
    iapply (wp_word c E arg8 X 1 k) $$ H
    iintro H
    rw [wp_bind]
    iapply (wp_word c E arg8 X 2 k) $$ H
    iintro H
    rw [wp_bind]
    iapply (wp_word c E arg8 X 3 k) $$ H
    iintro H
    rw [wp_bind]
    iapply (wp_loadTable arg8 X ks) $$ H
    iintro H
    iapply (le_wp_ret _ _ _ _ _)
    iapply Hk
    iexact H

/-- One group's rows of a block. -/
def rows (g : Fin 16) (x : Vec F S128x512 .f32) : Vec F S8x512 .f32 := fun j => x ((rowsAt g).emb j)

theorem wp_group (n arg0 : BitVec 32) (arg1 arg2 : Memref sig .tc .vmem S128x512 .f32) (ts : List (Quad F)) (g : Fin 16)
    (x0 x1 : Vec F S128x512 .f32) (Q : FVec F S8x512 .f32 → sProp 𝕄) :
    (iprop(owns (c : Thread nD τ) arg1 fullShare x0 ∗ owns (c : Thread nD τ) arg2 fullShare x1) : sProp 𝕄)
      ⊢ iprop((owns (c : Thread nD τ) arg1 fullShare x0 -∗ owns (c : Thread nD τ) arg2 fullShare x1 -∗ Q (square n arg0 ts g (rows g x0) (rows g x1)))
        -∗ wp frame (wpE (defs₀ (F := F)) Variants.none c none) E (group n arg0 arg1 arg2 ts g) Q) := by
  unfold group
  iintro ⟨H1, H2⟩ Hk
  rw [wp_bind]
  iapply (wp_load_owns c E) $$ H1
  iintro H1
  iapply (le_wp_ret _ _ _ _ _)
  rw [show (fun x => x0 ((rowsAt g).emb x)) = rows g x0 from rfl, wp_bind]
  iapply (wp_load_owns c E) $$ H2
  iintro H2
  iapply (le_wp_ret _ _ _ _ _)
  rw [show (fun x => x1 ((rowsAt g).emb x)) = rows g x1 from rfl]
  iapply (le_wp_ret _ _ _ _ _)
  iapply Hk $$ H1
  iexact H2

/-- The groups' squares added up. -/
def sumGroups (n arg0 : BitVec 32) (ts : List (Quad F)) (x0 x1 : Vec F S128x512 .f32) :
    FVec F S8x512 .f32 → List (Fin 16) → FVec F S8x512 .f32
  | acc, [] => acc
  | acc, g :: gs => sumGroups n arg0 ts x0 x1 (addf acc (square n arg0 ts g (rows g x0) (rows g x1))) gs

theorem wp_groups (n arg0 : BitVec 32) (arg1 arg2 : Memref sig .tc .vmem S128x512 .f32) (ts : List (Quad F))
    (x0 x1 : Vec F S128x512 .f32) (Q : FVec F S8x512 .f32 → sProp 𝕄) :
    ∀ (gs : List (Fin 16)) (acc : FVec F S8x512 .f32),
    (iprop(owns (c : Thread nD τ) arg1 fullShare x0 ∗ owns (c : Thread nD τ) arg2 fullShare x1) : sProp 𝕄)
      ⊢ iprop((owns (c : Thread nD τ) arg1 fullShare x0 -∗ owns (c : Thread nD τ) arg2 fullShare x1 -∗ Q (sumGroups n arg0 ts x0 x1 acc gs))
        -∗ wp frame (wpE (defs₀ (F := F)) Variants.none c none) E (groups n arg0 arg1 arg2 ts acc gs) Q)
  | [], acc => by
    unfold groups sumGroups
    iintro ⟨H1, H2⟩ Hk
    iapply (le_wp_ret _ _ _ _ _)
    iapply Hk $$ H1
    iexact H2
  | g :: gs, acc => by
    unfold groups sumGroups
    iintro H Hk
    rw [wp_bind]
    iapply (wp_group c E n arg0 arg1 arg2 ts g x0 x1) $$ H
    iintro H1 H2
    iapply (wp_groups n arg0 arg1 arg2 ts x0 x1 Q gs _) $$ [H1 H2]
    · isplitl [H1] <;> iassumption
    iexact Hk

/-- What one point adds to the accumulator. -/
def contrib (n arg0 : BitVec 32) (X : Vec F S4x32 .f32) (x0 x1 : Vec F S128x512 .f32) : FVec F S8x512 .f32 :=
  sumGroups n arg0 (clusters.map (quadOf X)) x0 x1
    (square n arg0 (clusters.map (quadOf X)) 0 (rows 0 x0) (rows 0 x1)) laterGroups

/-- The table the first point prepares. -/
def tableOf (h u : F .f32) (pr : Vec F S6x32 .f32) : Vec F S4x32 .f32 := table (rowA h pr) (rowB h pr) (rowC h pr) (rowW u pr)

/-- A rectangle that starts at zero with unit strides reads every index at itself. -/
theorem emb_all {s : Shape} (r : Rect s) (hs : r.shape = s) (ho : ∀ a, r.off a = 0) (ht : ∀ a, r.stride a = 1) (x : r.shape.Idx) (a : Fin s.rank) :
    (r.emb x a).val = (x a).val := by
  rw [Rect.emb_apply, ho, ht]; omega

theorem emb6x32 (x : all6x32.shape.Idx) : all6x32.emb x = x :=
  funext fun a => Fin.ext (emb_all all6x32 rfl (fun a => by match a with | 0 => rfl | 1 => rfl) (fun _ => rfl) x a)
theorem emb32x6 (x : all32x6.shape.Idx) : all32x6.emb x = x :=
  funext fun a => Fin.ext (emb_all all32x6 rfl (fun a => by match a with | 0 => rfl | 1 => rfl) (fun _ => rfl) x a)
theorem emb1x1 (x : all1x1.shape.Idx) : all1x1.emb x = x :=
  funext fun a => Fin.ext (emb_all all1x1 rfl (fun a => by match a with | 0 => rfl | 1 => rfl) (fun _ => rfl) x a)
theorem emb8x512 (x : all8x512.shape.Idx) : all8x512.emb x = x :=
  funext fun a => Fin.ext (emb_all all8x512 rfl (fun a => by match a with | 0 => rfl | 1 => rfl) (fun _ => rfl) x a)

theorem mem1x1 (y : S1x1.Idx) : y ∈ all1x1.set := by
  have h := all1x1.toLoadRect.idx_mem y
  rwa [show all1x1.toLoadRect.idx y = y from emb1x1 y] at h
theorem mem8x512 (y : S8x512.Idx) : y ∈ all8x512.set := by
  have h := all8x512.toLoadRect.idx_mem y
  rwa [show all8x512.toLoadRect.idx y = y from emb8x512 y] at h

theorem wp_prep (h u : F .f32) (arg3 : Memref sig .tc .vmem S6x32 .f32) (arg4 : Memref sig .tc .vmem S32x6 .f32)
    (arg6 : Memref sig .tc .vmem S1x1 .f32) (arg8 : Memref sig .tc .smem S4x32 .f32)
    (pr : Vec F S6x32 .f32) (pc : Vec F S32x6 .f32) (z : Vec F S1x1 .f32) (X : Vec F S4x32 .f32) (Q : PUnit → sProp 𝕄) :
    (iprop(owns (c : Thread nD τ) arg3 fullShare pr ∗ owns (c : Thread nD τ) arg4 fullShare pc
        ∗ owns (c : Thread nD τ) arg6 fullShare z ∗ owns (c : Thread nD τ) arg8 fullShare X) : sProp 𝕄)
      ⊢ iprop((owns (c : Thread nD τ) arg3 fullShare pr -∗ owns (c : Thread nD τ) arg4 fullShare pc
          -∗ owns (c : Thread nD τ) arg6 fullShare (zval h u pr pc) -∗ owns (c : Thread nD τ) arg8 fullShare (tableOf h u pr) -∗ Q ⟨⟩)
        -∗ wp frame (wpE (defs₀ (F := F)) Variants.none c none) E (prep h u arg3 arg4 arg6 arg8) Q) := by
  unfold prep
  iintro ⟨H3, H4, H6, H8⟩ Hk
  rw [wp_bind]
  iapply (wp_load_owns c E) $$ H3
  iintro H3
  iapply (le_wp_ret _ _ _ _ _)
  rw [show (fun x => pr (all6x32.emb x)) = pr from funext fun x => congrArg pr (emb6x32 x)]
  rw [wp_bind]
  iapply (wp_storeRow c E arg8 0 (rowA h pr)) $$ H8
  iintro H8
  rw [wp_bind]
  iapply (wp_storeRow c E arg8 1 (rowB h pr)) $$ H8
  iintro H8
  rw [wp_bind]
  iapply (wp_storeRow c E arg8 2 (rowC h pr)) $$ H8
  iintro H8
  rw [wp_bind]
  iapply (wp_storeRow c E arg8 3 (rowW u pr)) $$ H8
  iintro H8
  rw [setRow_table, show table (rowA h pr) (rowB h pr) (rowC h pr) (rowW u pr) = tableOf h u pr from rfl]
  rw [wp_bind]
  iapply (wp_load_owns c E) $$ H4
  iintro H4
  iapply (le_wp_ret _ _ _ _ _)
  rw [show (fun x => pc (all32x6.emb x)) = pc from funext fun x => congrArg pc (emb32x6 x)]
  rw [wp_bind]
  iapply (wp_load_owns c E) $$ H6
  iintro H6
  iapply (le_wp_ret _ _ _ _ _)
  rw [wp_bind]
  iapply (wp_store_owns c E _ (zval h u pr pc) (fun x => congrArg (zval h u pr pc) (emb1x1 x)) (fun y hy => absurd (mem1x1 y) hy)) $$ H6
  iintro H6
  iapply (le_wp_ret _ _ _ _ _)
  iapply (le_wp_ret _ _ _ _ _)
  iapply Hk $$ H3 H4 H6 H8

/-- The accumulator after the first point. -/
def firstAcc (n arg0 : BitVec 32) (X : Vec F S4x32 .f32) (x0 x1 : Vec F S128x512 .f32) : FVec F S8x512 .f32 :=
  shapeCast S8x512 (contrib n arg0 X x0 x1) shapeCasts_S8x512_S8x512

/-- The accumulator after a later point. -/
def nextAcc (n arg0 : BitVec 32) (X : Vec F S4x32 .f32) (x0 x1 : Vec F S128x512 .f32) (a : FVec F S8x512 .f32) : FVec F S8x512 .f32 :=
  shapeCast S8x512 (addf a (contrib n arg0 X x0 x1)) shapeCasts_S8x512_S8x512

theorem wp_initAcc (arg7 : Memref sig .tc .vmem S8x512 .f32) (a acc : FVec F S8x512 .f32) (Q : PUnit → sProp 𝕄) :
    (owns (c : Thread nD τ) arg7 fullShare a : sProp 𝕄)
      ⊢ iprop((owns (c : Thread nD τ) arg7 fullShare (shapeCast S8x512 acc shapeCasts_S8x512_S8x512 : FVec F S8x512 .f32) -∗ Q ⟨⟩)
        -∗ wp frame (wpE (defs₀ (F := F)) Variants.none c none) E (initAcc arg7 acc) Q) := by
  unfold initAcc
  iintro H Hk
  rw [wp_bind]
  iapply (wp_load_owns c E) $$ H
  iintro H
  iapply (le_wp_ret _ _ _ _ _)
  rw [wp_bind]
  iapply (wp_store_owns c E _ (shapeCast S8x512 acc shapeCasts_S8x512_S8x512 : FVec F S8x512 .f32)
    (fun x => congrArg (shapeCast S8x512 acc shapeCasts_S8x512_S8x512 : FVec F S8x512 .f32) (emb8x512 x)) (fun y hy => absurd (mem8x512 y) hy)) $$ H
  iintro H
  iapply (le_wp_ret _ _ _ _ _)
  iapply (le_wp_ret _ _ _ _ _)
  iapply Hk $$ H

theorem wp_addAcc (arg7 : Memref sig .tc .vmem S8x512 .f32) (a acc : FVec F S8x512 .f32) (Q : PUnit → sProp 𝕄) :
    (owns (c : Thread nD τ) arg7 fullShare a : sProp 𝕄)
      ⊢ iprop((owns (c : Thread nD τ) arg7 fullShare (shapeCast S8x512 (addf a acc) shapeCasts_S8x512_S8x512 : FVec F S8x512 .f32) -∗ Q ⟨⟩)
        -∗ wp frame (wpE (defs₀ (F := F)) Variants.none c none) E (addAcc arg7 acc) Q) := by
  unfold addAcc
  iintro H Hk
  rw [wp_bind]
  iapply (wp_load_owns c E) $$ H
  iintro H
  iapply (le_wp_ret _ _ _ _ _)
  rw [show (fun x => a (all8x512.emb x)) = a from funext fun x => congrArg a (emb8x512 x)]
  rw [wp_bind]
  iapply (wp_load_owns c E) $$ H
  iintro H
  iapply (le_wp_ret _ _ _ _ _)
  rw [wp_bind]
  iapply (wp_store_owns c E _ (shapeCast S8x512 (addf a acc) shapeCasts_S8x512_S8x512 : FVec F S8x512 .f32)
    (fun x => congrArg (shapeCast S8x512 (addf a acc) shapeCasts_S8x512_S8x512 : FVec F S8x512 .f32) (emb8x512 x)) (fun y hy => absurd (mem8x512 y) hy)) $$ H
  iintro H
  iapply (le_wp_ret _ _ _ _ _)
  iapply (le_wp_ret _ _ _ _ _)
  iapply Hk $$ H

theorem wp_flush (arg5 : Memref sig .tc .vmem S1x1 .f32) (arg7 : Memref sig .tc .vmem S8x512 .f32) (a : FVec F S8x512 .f32)
    (o : Vec F S1x1 .f32) (Q : PUnit → sProp 𝕄) :
    (iprop(owns (c : Thread nD τ) arg5 fullShare o ∗ owns (c : Thread nD τ) arg7 fullShare a) : sProp 𝕄)
      ⊢ iprop((owns (c : Thread nD τ) arg5 fullShare (total a) -∗ owns (c : Thread nD τ) arg7 fullShare a -∗ Q ⟨⟩)
        -∗ wp frame (wpE (defs₀ (F := F)) Variants.none c none) E (flush arg5 arg7) Q) := by
  unfold flush
  iintro ⟨H5, H⟩ Hk
  rw [wp_bind]
  iapply (wp_load_owns c E) $$ H
  iintro H
  iapply (le_wp_ret _ _ _ _ _)
  rw [show (fun x => a (all8x512.emb x)) = a from funext fun x => congrArg a (emb8x512 x)]
  rw [wp_bind]
  iapply (wp_load_owns c E) $$ H5
  iintro H5
  iapply (le_wp_ret _ _ _ _ _)
  rw [wp_bind]
  iapply (wp_store_owns c E _ (total a) (fun x => congrArg (total a) (emb1x1 x)) (fun y hy => absurd (mem1x1 y) hy)) $$ H5
  iintro H5
  iapply (le_wp_ret _ _ _ _ _)
  iapply (le_wp_ret _ _ _ _ _)
  iapply Hk $$ H5 H

section Point

variable (h u : F .f32) (n last arg0 : BitVec 32) (arg1 arg2 : Memref sig .tc .vmem S128x512 .f32)
    (arg3 : Memref sig .tc .vmem S6x32 .f32) (arg4 : Memref sig .tc .vmem S32x6 .f32)
    (arg5 arg6 : Memref sig .tc .vmem S1x1 .f32) (arg7 : Memref sig .tc .vmem S8x512 .f32)
    (arg8 : Memref sig .tc .smem S4x32 .f32)
    (x0 x1 : Vec F S128x512 .f32) (pr : Vec F S6x32 .f32) (pc : Vec F S32x6 .f32) (o z : Vec F S1x1 .f32)
    (a : Vec F S8x512 .f32) (X : Vec F S4x32 .f32)

/-- The first point. -/
theorem wp_body_first (Q : PUnit → sProp 𝕄) (h0 : isEq arg0 0#32 = 1#1) (hp : ¬ isPos arg0 = 1#1) (hl : ¬ isEq arg0 last = 1#1) :
    (iprop(owns (c : Thread nD τ) arg1 fullShare x0 ∗ owns (c : Thread nD τ) arg2 fullShare x1
        ∗ owns (c : Thread nD τ) arg3 fullShare pr ∗ owns (c : Thread nD τ) arg4 fullShare pc
        ∗ owns (c : Thread nD τ) arg6 fullShare z ∗ owns (c : Thread nD τ) arg7 fullShare a
        ∗ owns (c : Thread nD τ) arg8 fullShare X) : sProp 𝕄)
      ⊢ iprop((owns (c : Thread nD τ) arg1 fullShare x0 -∗ owns (c : Thread nD τ) arg2 fullShare x1
          -∗ owns (c : Thread nD τ) arg3 fullShare pr -∗ owns (c : Thread nD τ) arg4 fullShare pc
          -∗ owns (c : Thread nD τ) arg6 fullShare (zval h u pr pc)
          -∗ owns (c : Thread nD τ) arg7 fullShare (firstAcc n arg0 (tableOf h u pr) x0 x1)
          -∗ owns (c : Thread nD τ) arg8 fullShare (tableOf h u pr) -∗ Q ⟨⟩)
        -∗ wp frame (wpE (defs₀ (F := F)) Variants.none c none) E (body h u n last arg0 arg1 arg2 arg3 arg4 arg5 arg6 arg7 arg8) Q) := by
  unfold body firstAcc contrib
  simp only [if_pos h0, if_neg hp, if_neg hl]
  iintro ⟨H1, H2, H3, H4, H6, H7, H8⟩ Hk
  rw [wp_bind]
  iapply (wp_prep c E h u arg3 arg4 arg6 arg8 pr pc z X) $$ [H3 H4 H6 H8]
  · isplitl [H3]; · iexact H3
    isplitl [H4]; · iexact H4
    isplitl [H6] <;> iassumption
  iintro H3 H4 H6 H8
  rw [wp_bind]
  iapply (wp_loadTable c E arg8) $$ H8
  iintro H8
  rw [wp_bind]
  iapply (wp_group c E n arg0 arg1 arg2 _ 0 x0 x1) $$ [H1 H2]
  · isplitl [H1] <;> iassumption
  iintro H1 H2
  rw [wp_bind]
  iapply (wp_groups c E n arg0 arg1 arg2 _ x0 x1) $$ [H1 H2]
  · isplitl [H1] <;> iassumption
  iintro H1 H2
  rw [wp_bind]
  iapply (wp_initAcc c E arg7) $$ H7
  iintro H7
  iapply (le_wp_ret _ _ _ _ _)
  iapply Hk $$ H1 H2 H3 H4 H6 H7 H8

/-- A point after the first and before the last. -/
theorem wp_body_mid (Q : PUnit → sProp 𝕄) (h0 : ¬ isEq arg0 0#32 = 1#1) (hp : isPos arg0 = 1#1) (hl : ¬ isEq arg0 last = 1#1) :
    (iprop(owns (c : Thread nD τ) arg1 fullShare x0 ∗ owns (c : Thread nD τ) arg2 fullShare x1
        ∗ owns (c : Thread nD τ) arg7 fullShare a
        ∗ owns (c : Thread nD τ) arg8 fullShare X) : sProp 𝕄)
      ⊢ iprop((owns (c : Thread nD τ) arg1 fullShare x0 -∗ owns (c : Thread nD τ) arg2 fullShare x1
          -∗ owns (c : Thread nD τ) arg7 fullShare (nextAcc n arg0 X x0 x1 a)
          -∗ owns (c : Thread nD τ) arg8 fullShare X -∗ Q ⟨⟩)
        -∗ wp frame (wpE (defs₀ (F := F)) Variants.none c none) E (body h u n last arg0 arg1 arg2 arg3 arg4 arg5 arg6 arg7 arg8) Q) := by
  unfold body nextAcc contrib
  simp only [if_neg h0, if_pos hp, if_neg hl]
  iintro ⟨H1, H2, H7, H8⟩ Hk
  rw [wp_bind]
  iapply (wp_loadTable c E arg8) $$ H8
  iintro H8
  rw [wp_bind]
  iapply (wp_group c E n arg0 arg1 arg2 _ 0 x0 x1) $$ [H1 H2]
  · isplitl [H1] <;> iassumption
  iintro H1 H2
  rw [wp_bind]
  iapply (wp_groups c E n arg0 arg1 arg2 _ x0 x1) $$ [H1 H2]
  · isplitl [H1] <;> iassumption
  iintro H1 H2
  rw [wp_bind]
  iapply (wp_addAcc c E arg7) $$ H7
  iintro H7
  iapply (le_wp_ret _ _ _ _ _)
  iapply Hk $$ H1 H2 H7 H8

/-- The last point. -/
theorem wp_body_last (Q : PUnit → sProp 𝕄) (h0 : ¬ isEq arg0 0#32 = 1#1) (hp : isPos arg0 = 1#1) (hl : isEq arg0 last = 1#1) :
    (iprop(owns (c : Thread nD τ) arg1 fullShare x0 ∗ owns (c : Thread nD τ) arg2 fullShare x1
        ∗ owns (c : Thread nD τ) arg5 fullShare o
        ∗ owns (c : Thread nD τ) arg7 fullShare a
        ∗ owns (c : Thread nD τ) arg8 fullShare X) : sProp 𝕄)
      ⊢ iprop((owns (c : Thread nD τ) arg1 fullShare x0 -∗ owns (c : Thread nD τ) arg2 fullShare x1
          -∗ owns (c : Thread nD τ) arg5 fullShare (total (nextAcc n arg0 X x0 x1 a))
          -∗ owns (c : Thread nD τ) arg7 fullShare (nextAcc n arg0 X x0 x1 a)
          -∗ owns (c : Thread nD τ) arg8 fullShare X -∗ Q ⟨⟩)
        -∗ wp frame (wpE (defs₀ (F := F)) Variants.none c none) E (body h u n last arg0 arg1 arg2 arg3 arg4 arg5 arg6 arg7 arg8) Q) := by
  unfold body nextAcc contrib
  simp only [if_neg h0, if_pos hp, if_pos hl]
  iintro ⟨H1, H2, H5, H7, H8⟩ Hk
  rw [wp_bind]
  iapply (wp_loadTable c E arg8) $$ H8
  iintro H8
  rw [wp_bind]
  iapply (wp_group c E n arg0 arg1 arg2 _ 0 x0 x1) $$ [H1 H2]
  · isplitl [H1] <;> iassumption
  iintro H1 H2
  rw [wp_bind]
  iapply (wp_groups c E n arg0 arg1 arg2 _ x0 x1) $$ [H1 H2]
  · isplitl [H1] <;> iassumption
  iintro H1 H2
  rw [wp_bind]
  iapply (wp_addAcc c E arg7) $$ H7
  iintro H7
  iapply (wp_flush c E arg5 arg7 _ o) $$ [H5 H7]
  · isplitl [H5] <;> iassumption
  iintro H5 H7
  iapply Hk $$ H1 H2 H5 H7 H8

end Point

end Steps

end Cert.KernelIdeal.Own
end
-- ==== Proof.KernelIdeal.Point.lean ====
/-
  A region's points in sequence: what the accumulator holds after each, and one rule for every point.
-/
module

public import proofs.«01_k».proof.Proof.KernelIdeal.Wp

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal

variable {F : FTy → Type} [FloatOps F] [Named F] [Facts]
open Facts₀ Facts

local notation "𝕄" => MT nD τ sig Unit (Elt F) ℕ (UR sig nD τ) ℕ

theorem isEq_iff : ∀ a b : Fin 6, isEq (BitVec.ofNat 32 a.val) (BitVec.ofNat 32 b.val) = 1#1 ↔ a = b := by decide
theorem isPos_iff : ∀ a : Fin 6, isPos (BitVec.ofNat 32 a.val) = 1#1 ↔ a.val ≠ 0 := by decide

/-- The accumulator after each point, from the blocks in sequence. -/
def accAt (n : BitVec 32) (T : Vec F S4x32 .f32) (X0 X1 : ℕ → Vec F S128x512 .f32) : ℕ → FVec F S8x512 .f32
  | 0 => firstAcc n (BitVec.ofNat 32 0) T (X0 0) (X1 0)
  | k + 1 => nextAcc n (BitVec.ofNat 32 (k + 1)) T (X0 (k + 1)) (X1 (k + 1)) (accAt n T X0 X1 k)

/-- What the two scratch buffers hold before each point, beside `R`: anything before the first, then the accumulator
    and the table. -/
def Phi (c : Dev nD) (arg7 : Memref sig .tc .vmem S8x512 .f32) (arg8 : Memref sig .tc .smem S4x32 .f32) (R : sProp 𝕄)
    (n : BitVec 32) (T : Vec F S4x32 .f32) (X0 X1 : ℕ → Vec F S128x512 .f32) : ℕ → sProp 𝕄
  | 0 => iprop((∃ d, owns (c : Thread nD τ) arg7 fullShare d) ∗ (∃ d, owns (c : Thread nD τ) arg8 fullShare d) ∗ R)
  | k + 1 => iprop(owns (c : Thread nD τ) arg7 fullShare (accAt n T X0 X1 k) ∗ owns (c : Thread nD τ) arg8 fullShare T ∗ R)

/-- Any point of a region whose last point is the `L`-th. -/
theorem point (c : Dev nD) (E : Set ℕ) (h u : F .f32) (n : BitVec 32) (L t : Fin 6) (hL : L.val ≠ 0)
    (arg1 arg2 : Memref sig .tc .vmem S128x512 .f32)
    (arg3 : Memref sig .tc .vmem S6x32 .f32) (arg4 : Memref sig .tc .vmem S32x6 .f32)
    (arg5 arg6 : Memref sig .tc .vmem S1x1 .f32) (arg7 : Memref sig .tc .vmem S8x512 .f32)
    (arg8 : Memref sig .tc .smem S4x32 .f32) (R : sProp 𝕄)
    (X0 X1 : ℕ → Vec F S128x512 .f32) (pr0 pr : Vec F S6x32 .f32) (pc : Vec F S32x6 .f32) (o z : Vec F S1x1 .f32)
    (hpr : t.val = 0 → pr = pr0) :
    (iprop(Phi c arg7 arg8 R n (tableOf h u pr0) X0 X1 t.val
        ∗ owns (c : Thread nD τ) arg1 fullShare (X0 t.val) ∗ owns (c : Thread nD τ) arg2 fullShare (X1 t.val)
        ∗ owns (c : Thread nD τ) arg3 fullShare pr ∗ owns (c : Thread nD τ) arg4 fullShare pc
        ∗ owns (c : Thread nD τ) arg5 fullShare o ∗ owns (c : Thread nD τ) arg6 fullShare z) : sProp 𝕄)
      ⊢ wp frame (wpE (defs₀ (F := F)) Variants.none c none) E
          (body h u n (BitVec.ofNat 32 L.val) (BitVec.ofNat 32 t.val) arg1 arg2 arg3 arg4 arg5 arg6 arg7 arg8)
          (fun _ => iprop(Phi c arg7 arg8 R n (tableOf h u pr0) X0 X1 (t.val + 1)
            ∗ owns (c : Thread nD τ) arg1 fullShare (X0 t.val) ∗ owns (c : Thread nD τ) arg2 fullShare (X1 t.val)
            ∗ owns (c : Thread nD τ) arg3 fullShare pr ∗ owns (c : Thread nD τ) arg4 fullShare pc
            ∗ owns (c : Thread nD τ) arg5 fullShare (if t = L then total (accAt n (tableOf h u pr0) X0 X1 L.val) else o)
            ∗ owns (c : Thread nD τ) arg6 fullShare (if t.val = 0 then zval h u pr pc else z))) := by
  have e0 := isEq_iff t 0
  have ep := isPos_iff t
  have eL := isEq_iff t L
  rcases t with ⟨tv, ht⟩
  cases tv with
  | zero =>
    have hne : (⟨0, ht⟩ : Fin 6) ≠ L := fun h' => hL (by rw [← h'])
    rw [if_neg hne, if_pos rfl, ← hpr rfl]
    simp only [Phi, accAt]
    iintro ⟨⟨⟨%a, H7⟩, ⟨%X, H8⟩, HR⟩, H1, H2, H3, H4, H5, H6⟩
    iapply (wp_body_first c E h u n _ _ arg1 arg2 arg3 arg4 arg5 arg6 arg7 arg8 (X0 0) (X1 0) pr pc z a X _
      (e0.mpr rfl) (fun hh => ep.mp hh rfl) (fun hh => hne (eL.mp hh))) $$ [H1 H2 H3 H4 H6 H7 H8]
    · isplitl [H1]; · iexact H1
      isplitl [H2]; · iexact H2
      isplitl [H3]; · iexact H3
      isplitl [H4]; · iexact H4
      isplitl [H6]; · iexact H6
      isplitl [H7] <;> iassumption
    iintro H1 H2 H3 H4 H6 H7 H8
    isplitl [H7 H8 HR]
    · isplitl [H7]; · iexact H7
      isplitl [H8] <;> iassumption
    isplitl [H1]; · iexact H1
    isplitl [H2]; · iexact H2
    isplitl [H3]; · iexact H3
    isplitl [H4]; · iexact H4
    isplitl [H5] <;> iassumption
  | succ k =>
    have hn0 : ¬ isEq (BitVec.ofNat 32 (k + 1)) (BitVec.ofNat 32 0) = 1#1 := fun hh => by
      have := congrArg Fin.val (e0.mp hh); exact absurd this (Nat.succ_ne_zero k)
    have hp : isPos (BitVec.ofNat 32 (k + 1)) = 1#1 := ep.mpr (Nat.succ_ne_zero k)
    rw [if_neg (show ¬ (k + 1 = 0) from Nat.succ_ne_zero k)]
    simp only [Phi]
    by_cases hl : (⟨k + 1, ht⟩ : Fin 6) = L
    · have hlv : L.val = k + 1 := by rw [← hl]
      rw [if_pos hl, hlv]
      rw [hlv] at eL
      simp only [accAt]
      iintro ⟨⟨H7, H8, HR⟩, H1, H2, H3, H4, H5, H6⟩
      iapply (wp_body_last c E h u n _ _ arg1 arg2 arg3 arg4 arg5 arg6 arg7 arg8 (X0 (k + 1)) (X1 (k + 1)) o _ _ _
        hn0 hp (eL.mpr hl)) $$ [H1 H2 H5 H7 H8]
      · isplitl [H1]; · iexact H1
        isplitl [H2]; · iexact H2
        isplitl [H5]; · iexact H5
        isplitl [H7] <;> iassumption
      iintro H1 H2 H5 H7 H8
      isplitl [H7 H8 HR]
      · isplitl [H7]; · iexact H7
        isplitl [H8] <;> iassumption
      isplitl [H1]; · iexact H1
      isplitl [H2]; · iexact H2
      isplitl [H3]; · iexact H3
      isplitl [H4]; · iexact H4
      isplitl [H5] <;> iassumption
    · rw [if_neg hl]
      simp only [accAt]
      iintro ⟨⟨H7, H8, HR⟩, H1, H2, H3, H4, H5, H6⟩
      iapply (wp_body_mid c E h u n _ _ arg1 arg2 arg3 arg4 arg5 arg6 arg7 arg8 (X0 (k + 1)) (X1 (k + 1)) _ _ _
        hn0 hp (fun hh => hl (eL.mp hh))) $$ [H1 H2 H7 H8]
      · isplitl [H1]; · iexact H1
        isplitl [H2]; · iexact H2
        isplitl [H7] <;> iassumption
      iintro H1 H2 H7 H8
      isplitl [H7 H8 HR]
      · isplitl [H7]; · iexact H7
        isplitl [H8] <;> iassumption
      isplitl [H1]; · iexact H1
      isplitl [H2]; · iexact H2
      isplitl [H3]; · iexact H3
      isplitl [H4]; · iexact H4
      isplitl [H5] <;> iassumption

end Cert.KernelIdeal.Own
end
-- ==== Proof.KernelIdeal.Unfold0.lean ====
/-
  The printed bodies of the regions are the loops of `Body`.
-/
module

public import proofs.«01_k».proof.Proof.KernelIdeal.Body
import Idealize.ShloMosaic.Lib.Tactic

@[expose] public section

set_option maxRecDepth 65536

namespace Cert.KernelIdeal.Own

open Idealize.ShloMosaic Idealize.SL.Sem
open Cert.KernelIdeal

variable {F : FTy → Type} [FloatOps F] [Named F] [Facts]

/-- The two constants, as the program holds them. -/
noncomputable abbrev hK : F .f32 := Named.named κ "neg_half_log2e" 0xBF38AA3B#32
noncomputable abbrev uK : F .f32 := Named.named κ "inv_two_pi" 0x3E22F983#32

theorem body0 (i : grid0.Coords) (arg1 arg2 : Memref sig .tc .vmem S128x512 .f32) (harg1 : arg1.IsWhole) (harg2 : arg2.IsWhole)
    (arg3 : Memref sig .tc .vmem S6x32 .f32) (harg3 : arg3.IsWhole) (arg4 : Memref sig .tc .vmem S32x6 .f32) (harg4 : arg4.IsWhole)
    (arg5 arg6 : Memref sig .tc .vmem S1x1 .f32) (harg5 : arg5.IsWhole) (harg6 : arg6.IsWhole)
    (arg7 : Memref sig .tc .vmem S8x512 .f32) (harg7 : arg7.IsWhole) (arg8 : Memref sig .tc .smem S4x32 .f32) (harg8 : arg8.IsWhole) :
    cc0_nmsq_gm_nll (F := F) i arg1 harg1 arg2 harg2 arg3 harg3 arg4 harg4 arg5 harg5 arg6 harg6 arg7 harg7 arg8 harg8
      = body hK uK 393216#32 5#32 (BitVec.ofNat 32 (i 0).val) arg1 arg2 arg3 arg4 arg5 arg6 arg7 arg8 := by
  by_cases h : k0_cond1 i = 1#1
  · have h' : isEq (BitVec.ofNat 32 (i 0).val) 0#32 = 1#1 := h
    unfold cc0_nmsq_gm_nll k0_part131 k0_part16 body
    rw [dif_pos h, if_pos h']
    sl_kernel_rfl
  · have h' : ¬ isEq (BitVec.ofNat 32 (i 0).val) 0#32 = 1#1 := h
    unfold cc0_nmsq_gm_nll k0_part131 k0_part16 body
    rw [dif_neg h, if_neg h']
    sl_kernel_rfl

end Cert.KernelIdeal.Own
-- ==== Proof.KernelIdeal.Region0.lean ====
/-
  The first call's points: what its windows' buffers hold after each, and that its body leaves that.
-/
module

public import proofs.«01_k».proof.Proof.KernelIdeal.Point
public import proofs.«01_k».proof.Proof.KernelIdeal.Unfold0
public import proofs.«01_k».proof.Proof.Gen.KernelIdeal.Launch
public import proofs.«01_k».proof.Proof.Gen.KernelIdeal.Points
public import Idealize.ShloMosaic.Lib.Pipeline.TableIdle
public import Idealize.ShloMosaic.Lib.Pipeline.FrameBody

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal Cert.KernelIdeal.Gen

variable {F : FTy → Type} [FloatOps F] [Named F]

local notation "𝕄" => MT nD τ sig Unit (Elt F) ℕ (UR sig nD τ) ℕ

variable (W : Valuation τ sig (Elt F))

/-- A window's block at a point, of what its array holds at entry. -/
def iblk0 (w : Fin cfg0.W) (t : Fin cfg0.N) : ((cfg0.win w).xblock (cfg0.grid.coords t)).Idx → Elt F (cfg0.win w).elt :=
  ((cfg0.win w).blk t).view.read (Elt F) (W (Pipeline.arrRef spec0 w))

/-- The `k`-th point. -/
def pt0 (k : ℕ) : Fin cfg0.N := ⟨k % 6, lt_of_lt_of_eq (Nat.mod_lt k (by decide)) (show 6 = cfg0.N from N_0.symm)⟩

theorem pt0_val (t : Fin cfg0.N) : pt0 t.val = t :=
  Fin.ext (Nat.mod_eq_of_lt (lt_of_lt_of_eq t.isLt (show cfg0.N = 6 from N_0)))

/-- The clusters' table, and what the accumulator holds after each point. -/
def tbl0 : Vec F S4x32 .f32 := tableOf hK uK (iblk0 W 2 (pt0 0))
def acc0 (k : ℕ) : FVec F S8x512 .f32 :=
  accAt 393216#32 (tbl0 W) (fun k => iblk0 W 0 (pt0 k)) (fun k => iblk0 W 1 (pt0 k)) k

/-- What the two outputs are left with. -/
def out0 : Vec F S1x1 .f32 := total (acc0 W 5)
def norm0 : Vec F S1x1 .f32 := zval hK uK (iblk0 W 2 (pt0 0)) (iblk0 W 3 (pt0 0))

theorem rest0_ex (c : Dev nD) : ∃ R : sProp 𝕄, (Pipeline.scopedRest spec0 c : sProp 𝕄)
    = iprop((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f) ∗ R) :=
  ⟨_, Pipeline.scopedRest_eq_of_list spec0 c [cc0_scratch0, cc0_scratch1, cc1_stg0_0, cc1_stg0_1, cc1_stg1_0, cc1_stg1_1, cc1_stg2_0, cc1_stg3_0, cc1_stg4_0, cc1_stg5_0, cc1_scratch0, cc2_stg0_0, cc2_stg0_1, cc2_stg1_0, cc2_stg1_1, cc2_stg2_0, cc2_stg3_0, cc2_stg4_0, cc2_stg5_0, cc2_scratch0, cc1_scratch1, cc2_scratch1] (by decide) (by decide)⟩

/-- The scoped buffers beside the two scratch buffers and the staging buffers. -/
def others0 (c : Dev nD) : sProp 𝕄 := (rest0_ex c).choose

/-- What is held before each point. -/
def Phi0 (c : Dev nD) (k : ℕ) : sProp 𝕄 :=
  Phi c (Memref.whole cc0_scratch0) (Memref.whole cc0_scratch1) (others0 c) 393216#32 (tbl0 W)
    (fun k => iblk0 W 0 (pt0 k)) (fun k => iblk0 W 1 (pt0 k)) k

theorem Phi0_zero (c : Dev nD) : (Pipeline.scopedRest spec0 c : sProp 𝕄) = Phi0 W c 0 := by
  rw [(rest0_ex c).choose_spec]
  unfold Phi0 Phi
  simp only [owns_whole]
  rfl

/-- The region's data. -/
def dat0 (c : Dev nD) : Dat τ (Elt F) Unit ℕ (UR sig nD τ) ℕ cfg0 c where
  A w := W (Pipeline.arrRef spec0 w)
  after w t := match w with
    | ⟨0, _⟩ => iblk0 W 0 t
    | ⟨1, _⟩ => iblk0 W 1 t
    | ⟨2, _⟩ => iblk0 W 2 t
    | ⟨3, _⟩ => iblk0 W 3 t
    | ⟨4, _⟩ => out0 W
    | ⟨5, _⟩ => norm0 W
  Φ t := Phi0 W c t.val
  q _ := fullShare
  owed _ := 0

theorem A0_eq (c : Dev nD) (w : Fin cfg0.W) : (dat0 W c).A w = W (Pipeline.arrRef spec0 w) := by dsimp only [dat0]
theorem after0_0 (c : Dev nD) (t : Fin cfg0.N) : (dat0 W c).after 0 t = iblk0 W 0 t := by dsimp only [dat0]
theorem after0_1 (c : Dev nD) (t : Fin cfg0.N) : (dat0 W c).after 1 t = iblk0 W 1 t := by dsimp only [dat0]
theorem after0_2 (c : Dev nD) (t : Fin cfg0.N) : (dat0 W c).after 2 t = iblk0 W 2 t := by dsimp only [dat0]
theorem after0_3 (c : Dev nD) (t : Fin cfg0.N) : (dat0 W c).after 3 t = iblk0 W 3 t := by dsimp only [dat0]
theorem after0_4 (c : Dev nD) (t : Fin cfg0.N) : (dat0 W c).after 4 t = out0 W := by dsimp only [dat0]
theorem after0_5 (c : Dev nD) (t : Fin cfg0.N) : (dat0 W c).after 5 t = norm0 W := by dsimp only [dat0]

/-- An input's buffer holds its block at every point. -/
theorem before0_0 (c : Dev nD) (t : Fin cfg0.N) (d) : (dat0 W c).before 0 t d = iblk0 W 0 t :=
  ((dat0 W c).before_in_eq_fetched 0 rfl (fun _ => rfl) (fun _ _ _ => rfl)
    (fun t => by rw [after0_0]; unfold Dat.blockOf iblk0; rw [A0_eq]; try rfl) t d).trans
    (by unfold Dat.fetched Dat.blockOf iblk0; rw [A0_eq]; try rfl)
theorem before0_1 (c : Dev nD) (t : Fin cfg0.N) (d) : (dat0 W c).before 1 t d = iblk0 W 1 t :=
  ((dat0 W c).before_in_eq_fetched 1 rfl (fun _ => rfl) (fun _ _ _ => rfl)
    (fun t => by rw [after0_1]; unfold Dat.blockOf iblk0; rw [A0_eq]; try rfl) t d).trans
    (by unfold Dat.fetched Dat.blockOf iblk0; rw [A0_eq]; try rfl)
theorem before0_2 (c : Dev nD) (t : Fin cfg0.N) (d) : (dat0 W c).before 2 t d = iblk0 W 2 t :=
  ((dat0 W c).before_in_eq_fetched 2 rfl (fun _ => rfl) (fun _ _ _ => rfl)
    (fun t => by rw [after0_2]; unfold Dat.blockOf iblk0; rw [A0_eq]; try rfl) t d).trans
    (by unfold Dat.fetched Dat.blockOf iblk0; rw [A0_eq]; try rfl)
theorem before0_3 (c : Dev nD) (t : Fin cfg0.N) (d) : (dat0 W c).before 3 t d = iblk0 W 3 t :=
  ((dat0 W c).before_in_eq_fetched 3 rfl (fun _ => rfl) (fun _ _ _ => rfl)
    (fun t => by rw [after0_3]; unfold Dat.blockOf iblk0; rw [A0_eq]; try rfl) t d).trans
    (by unfold Dat.fetched Dat.blockOf iblk0; rw [A0_eq]; try rfl)

/-- When the outputs are written: the first at the last point, the second at the first. -/
theorem idle0_4 : ∀ t : Fin cfg0.N, cfg0.idle 4 (cfg0.grid.coords t) = !(t.val == 5) :=
  (by decide +kernel : ∀ t : Fin grid0.N, cfg0.idle 4 (grid0.coords t) = !(t.val == 5))
theorem idle0_5 : ∀ t : Fin cfg0.N, cfg0.idle 5 (cfg0.grid.coords t) = !(t.val == 0) :=
  (by decide +kernel : ∀ t : Fin grid0.N, cfg0.idle 5 (grid0.coords t) = !(t.val == 0))
theorem fl0_4 : ∀ t : Fin cfg0.N, (cfg0.win 4).flush t = (t.val == 5) :=
  (by decide +kernel : ∀ t : Fin grid0.N, win0_4.flush t = (t.val == 5))
theorem fl0_5 : ∀ t : Fin cfg0.N, (cfg0.win 5).flush t = (t.val == 5) :=
  (by decide +kernel : ∀ t : Fin grid0.N, win0_5.flush t = (t.val == 5))

theorem fresh0_5 (n : ℕ) (h : n ≤ cfg0.N) : cfg0.fresh 5 n = (n == 0 || n == 6) :=
  Cfg.fresh_tab cfg0 5 (fun n => n == 0 || n == 6) rfl (fun t => by
    rw [fl0_5, idle0_5]
    exact (by decide +kernel : ∀ t : Fin grid0.N, ((t.val + 1 == 0) || (t.val + 1 == 6))
      = ((t.val == 5) || ((!(t.val == 0)) && ((t.val == 0) || (t.val == 6))))) t) n h

theorem before0_5 (c : Dev nD) (t : Fin cfg0.N) (d) :
    (dat0 W c).before 5 t d = if t.val = 0 then d else norm0 W := by
  rw [Dat.before_out_traj (dat0 W c) 5 rfl (fun _ _ => rfl) (fun t ht _ _ => by rw [after0_5, after0_5]) t.val t rfl d, after0_5,
    fresh0_5 _ t.isLt.le]
  have h6 : t.val ≠ 6 := (lt_of_lt_of_eq t.isLt (show cfg0.N = 6 from N_0)).ne
  by_cases h : t.val = 0 <;> simp [h, h6]

/-- What the body is called with at a point, and what it leaves. -/
def pre0 (c : Dev nD) (t : Fin cfg0.N) : sProp 𝕄 :=
  iprop((dat0 W c).Φ t.castSucc ∗ (dat0 W c).owesAt () t.castSucc
    ∗ (∃ d, owns (c : Thread nD τ) (st0_0 t) fullShare ((dat0 W c).before 0 t d))
    ∗ (∃ d, owns (c : Thread nD τ) (st0_1 t) fullShare ((dat0 W c).before 1 t d))
    ∗ (∃ d, owns (c : Thread nD τ) (st0_2 t) fullShare ((dat0 W c).before 2 t d))
    ∗ (∃ d, owns (c : Thread nD τ) (st0_3 t) fullShare ((dat0 W c).before 3 t d))
    ∗ (∃ d, owns (c : Thread nD τ) (st0_4 t) fullShare ((dat0 W c).before 4 t d))
    ∗ (∃ d, owns (c : Thread nD τ) (st0_5 t) fullShare ((dat0 W c).before 5 t d)))
def post0 (c : Dev nD) (t : Fin cfg0.N) : sProp 𝕄 :=
  iprop((dat0 W c).Φ t.succ ∗ (dat0 W c).owesAt () t.succ
    ∗ (dat0 W c).leavesExact 0 t ∗ (dat0 W c).leavesExact 1 t ∗ (dat0 W c).leavesExact 2 t
    ∗ (dat0 W c).leavesExact 3 t ∗ (dat0 W c).leavesExact 4 t ∗ (dat0 W c).leavesExact 5 t)

theorem leaves0_4 (c : Dev nD) (t : Fin cfg0.N) (d) :
    owns (c : Thread nD τ) (st0_4 t) fullShare (if t.val = 5 then out0 W else (dat0 W c).before 4 t d)
      ⊢ (dat0 W c).leavesExact 4 t := by
  by_cases h : t.val = 5
  · unfold Dat.leavesExact
    rw [idle0_4, fl0_4, after0_4, if_pos h, h]
    exact .rfl
  · have hb : (t.val == 5) = false := beq_eq_false_iff_ne.mpr h
    rw [if_neg h, Dat.leavesExact_idle (dat0 W c) 4 t (by rw [idle0_4, hb]; rfl) (by rw [fl0_4, hb])]
    iintro H
    iexists d
    iexact H

theorem leaves0_5 (c : Dev nD) (t : Fin cfg0.N) (d) :
    owns (c : Thread nD τ) (st0_5 t) fullShare (if t.val = 0 then norm0 W else (dat0 W c).before 5 t d)
      ⊢ (dat0 W c).leavesExact 5 t := by
  by_cases h : t.val = 0
  · unfold Dat.leavesExact
    rw [idle0_5, fl0_5, after0_5, if_pos h, h]
    exact .rfl
  · have hi : cfg0.idle 5 (cfg0.grid.coords t) = true := by rw [idle0_5, beq_eq_false_iff_ne.mpr h]; rfl
    rw [if_neg h]
    by_cases h5 : t.val = 5
    · unfold Dat.leavesExact
      rw [hi, fl0_5, after0_5, before0_5, if_neg h, h5]
      exact .rfl
    · rw [Dat.leavesExact_idle (dat0 W c) 5 t hi (by rw [fl0_5]; exact beq_eq_false_iff_ne.mpr h5)]
      iintro H
      iexists d
      iexact H

variable [Facts]

theorem sound0 (c : Dev nD) (t : Fin cfg0.N) :
    pre0 W c t ⊢ wp frame (wpE (defs₀ (F := F)) Variants.none c none) Set.univ (bodyAt0 t) (fun _ => post0 W c t) := by
  unfold pre0 post0
  simp only [before0_0, before0_1, before0_2, before0_3]
  rw [show (dat0 W c).owesAt () t.succ = (dat0 W c).owesAt () t.castSucc from rfl]
  rw [show (dat0 W c).Φ t.succ = Phi0 W c (t.val + 1) from rfl, show (dat0 W c).Φ t.castSucc = Phi0 W c t.val from rfl]
  rw [show (dat0 W c).leavesExact 0 t = owns (c : Thread nD τ) (st0_0 t) fullShare (iblk0 W 0 t) from by rw [← after0_0 W c],
    show (dat0 W c).leavesExact 1 t = owns (c : Thread nD τ) (st0_1 t) fullShare (iblk0 W 1 t) from by rw [← after0_1 W c],
    show (dat0 W c).leavesExact 2 t = owns (c : Thread nD τ) (st0_2 t) fullShare (iblk0 W 2 t) from by rw [← after0_2 W c],
    show (dat0 W c).leavesExact 3 t = owns (c : Thread nD τ) (st0_3 t) fullShare (iblk0 W 3 t) from by rw [← after0_3 W c]]
  have h6 : t.val < 6 := lt_of_lt_of_eq t.isLt (show cfg0.N = 6 from N_0)
  have ec : (grid0.coords t 0).val = t.val := by
    have e : (grid0.coords t 0).val = t.val / 1 % 6 := Pipeline.Grid.coords_val (G := grid0) t 0 (S := 1) (B := 6) (by decide) rfl
    rw [e, Nat.div_one, Nat.mod_eq_of_lt h6]
  unfold bodyAt0
  rw [body0, ec]
  iintro ⟨HP, Ho, ⟨%d0, H0⟩, ⟨%d1, H1⟩, ⟨%d2, H2⟩, ⟨%d3, H3⟩, ⟨%d4, H4⟩, ⟨%d5, H5⟩⟩
  have hp := point c Set.univ (hK (F := F)) uK 393216#32 (5 : Fin 6) ⟨t.val, h6⟩ (by decide) (st0_0 t) (st0_1 t) (st0_2 t) (st0_3 t)
    (st0_4 t) (st0_5 t) (Memref.whole cc0_scratch0) (Memref.whole cc0_scratch1) (others0 c)
    (fun k => iblk0 W 0 (pt0 k)) (fun k => iblk0 W 1 (pt0 k)) (iblk0 W 2 (pt0 0)) (iblk0 W 2 t) (iblk0 W 3 t)
    ((dat0 W c).before 4 t d4) ((dat0 W c).before 5 t d5) (fun h => by
      have h0 : t.val = 0 := h
      have := pt0_val t
      rw [h0] at this; rw [this])
  have q0 : (iblk0 W 0 (pt0 t.val) : Vec F S128x512 .f32) = iblk0 W 0 t := by rw [pt0_val]
  have q1 : (iblk0 W 1 (pt0 t.val) : Vec F S128x512 .f32) = iblk0 W 1 t := by rw [pt0_val]
  dsimp only at hp
  rw [q0, q1] at hp
  unfold Phi0 tbl0
  have hl4 := leaves0_4 W c t d4
  have hl5 := leaves0_5 W c t d5
  have e5 : (if (⟨t.val, h6⟩ : Fin 6) = 5 then out0 W else (dat0 W c).before 4 t d4)
      = (if t.val = 5 then out0 W else (dat0 W c).before 4 t d4) := if_congr (Fin.ext_iff) rfl rfl
  have e0 : (if t.val = 0 then zval hK uK (iblk0 W 2 t) (iblk0 W 3 t) else (dat0 W c).before 5 t d5)
      = (if t.val = 0 then norm0 W else (dat0 W c).before 5 t d5) := by
    by_cases h : t.val = 0
    · have := pt0_val t
      rw [h] at this
      rw [if_pos h, if_pos h]; unfold norm0; rw [this]
    · rw [if_neg h, if_neg h]
  rw [← e5] at hl4
  rw [← e0] at hl5
  iapply wp_wand_r
  isplitl [HP H0 H1 H2 H3 H4 H5]
  · iapply hp
    isplitl [HP]; · iexact HP
    isplitl [H0]; · iexact H0
    isplitl [H1]; · iexact H1
    isplitl [H2]; · iexact H2
    isplitl [H3]; · iexact H3
    isplitl [H4] <;> iassumption
  iintro %_ ⟨HP, H0, H1, H2, H3, H4, H5⟩
  isplitl [HP]; · iexact HP
  isplitl [Ho]; · iexact Ho
  isplitl [H0]; · iexact H0
  isplitl [H1]; · iexact H1
  isplitl [H2]; · iexact H2
  isplitl [H3]; · iexact H3
  isplitl [H4]
  · iapply hl4; iexact H4
  · iapply hl5; iexact H5

theorem obligation0 (c : Dev nD) : BodyObligation (dat0 W c) (defs₀ (F := F)) Variants.none () Set.univ := fun t => by
  rw [bigSep_W0, bigSep_W0]
  rw [show (defs₀ (F := F)) .tc cfg0.body (cfg0.bodyArgs t (cfg0.slots t)) = bodyAt0 t from by unfold defs₀; rw [Defs.onTc_tc]]
  exact triple_restated (sound0 W c t) rfl .rfl fun _ => .rfl

end Cert.KernelIdeal.Own
end
-- ==== Proof.KernelIdeal.Unfold1.lean ====
/-
  The printed bodies of the regions are the loops of `Body`.
-/
module

public import proofs.«01_k».proof.Proof.KernelIdeal.Unfold0
import Idealize.ShloMosaic.Lib.Tactic

@[expose] public section

set_option maxRecDepth 65536

namespace Cert.KernelIdeal.Own

open Idealize.ShloMosaic Idealize.SL.Sem
open Cert.KernelIdeal

variable {F : FTy → Type} [FloatOps F] [Named F] [Facts]

theorem body1 (i : grid1.Coords) (arg1 arg2 : Memref sig .tc .vmem S128x512 .f32) (harg1 : arg1.IsWhole) (harg2 : arg2.IsWhole)
    (arg3 : Memref sig .tc .vmem S6x32 .f32) (harg3 : arg3.IsWhole) (arg4 : Memref sig .tc .vmem S32x6 .f32) (harg4 : arg4.IsWhole)
    (arg5 arg6 : Memref sig .tc .vmem S1x1 .f32) (harg5 : arg5.IsWhole) (harg6 : arg6.IsWhole)
    (arg7 : Memref sig .tc .vmem S8x512 .f32) (harg7 : arg7.IsWhole) (arg8 : Memref sig .tc .smem S4x32 .f32) (harg8 : arg8.IsWhole) :
    cc1_nmsq_gm_nll (F := F) i arg1 harg1 arg2 harg2 arg3 harg3 arg4 harg4 arg5 harg5 arg6 harg6 arg7 harg7 arg8 harg8
      = body hK uK 393216#32 5#32 (BitVec.ofNat 32 (i 0).val) arg1 arg2 arg3 arg4 arg5 arg6 arg7 arg8 := by
  by_cases h : k1_cond1 i = 1#1
  · have h' : isEq (BitVec.ofNat 32 (i 0).val) 0#32 = 1#1 := h
    unfold cc1_nmsq_gm_nll k1_part131 k1_part16 body
    rw [dif_pos h, if_pos h']
    sl_kernel_rfl
  · have h' : ¬ isEq (BitVec.ofNat 32 (i 0).val) 0#32 = 1#1 := h
    unfold cc1_nmsq_gm_nll k1_part131 k1_part16 body
    rw [dif_neg h, if_neg h']
    sl_kernel_rfl

end Cert.KernelIdeal.Own
-- ==== Proof.KernelIdeal.Region1.lean ====
/-
  The second call's points: what its windows' buffers hold after each, and that its body leaves that.
-/
module

public import proofs.«01_k».proof.Proof.KernelIdeal.Point
public import proofs.«01_k».proof.Proof.KernelIdeal.Unfold1
public import proofs.«01_k».proof.Proof.Gen.KernelIdeal.Launch
public import proofs.«01_k».proof.Proof.Gen.KernelIdeal.Points
public import Idealize.ShloMosaic.Lib.Pipeline.TableIdle
public import Idealize.ShloMosaic.Lib.Pipeline.FrameBody

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal Cert.KernelIdeal.Gen

variable {F : FTy → Type} [FloatOps F] [Named F]

local notation "𝕄" => MT nD τ sig Unit (Elt F) ℕ (UR sig nD τ) ℕ

variable (W : Valuation τ sig (Elt F))

/-- A window's block at a point, of what its array holds at entry. -/
def iblk1 (w : Fin cfg1.W) (t : Fin cfg1.N) : ((cfg1.win w).xblock (cfg1.grid.coords t)).Idx → Elt F (cfg1.win w).elt :=
  ((cfg1.win w).blk t).view.read (Elt F) (W (Pipeline.arrRef spec1 w))

/-- The `k`-th point. -/
def pt1 (k : ℕ) : Fin cfg1.N := ⟨k % 6, lt_of_lt_of_eq (Nat.mod_lt k (by decide)) (show 6 = cfg1.N from N_1.symm)⟩

theorem pt1_val (t : Fin cfg1.N) : pt1 t.val = t :=
  Fin.ext (Nat.mod_eq_of_lt (lt_of_lt_of_eq t.isLt (show cfg1.N = 6 from N_1)))

/-- The clusters' table, and what the accumulator holds after each point. -/
def tbl1 : Vec F S4x32 .f32 := tableOf hK uK (iblk1 W 2 (pt1 0))
def acc1 (k : ℕ) : FVec F S8x512 .f32 :=
  accAt 393216#32 (tbl1 W) (fun k => iblk1 W 0 (pt1 k)) (fun k => iblk1 W 1 (pt1 k)) k

/-- What the two outputs are left with. -/
def out1 : Vec F S1x1 .f32 := total (acc1 W 5)
def norm1 : Vec F S1x1 .f32 := zval hK uK (iblk1 W 2 (pt1 0)) (iblk1 W 3 (pt1 0))

theorem rest1_ex (c : Dev nD) : ∃ R : sProp 𝕄, (Pipeline.scopedRest spec1 c : sProp 𝕄)
    = iprop((∃ f : Buf (Elt F) ((c : Thread nD τ).loc cc1_scratch0), ((c : Thread nD τ).loc cc1_scratch0) ↦{fullShare} f)
      ∗ (∃ f : Buf (Elt F) ((c : Thread nD τ).loc cc1_scratch1), ((c : Thread nD τ).loc cc1_scratch1) ↦{fullShare} f) ∗ R) :=
  ⟨_, Pipeline.scopedRest_eq_of_list spec1 c [cc1_scratch0, cc1_scratch1, cc0_stg0_0, cc0_stg0_1, cc0_stg1_0, cc0_stg1_1, cc0_stg2_0, cc0_stg3_0, cc0_stg4_0, cc0_stg5_0, cc0_scratch0, cc0_scratch1, cc2_stg0_0, cc2_stg0_1, cc2_stg1_0, cc2_stg1_1, cc2_stg2_0, cc2_stg3_0, cc2_stg4_0, cc2_stg5_0, cc2_scratch0, cc2_scratch1] (by decide) (by decide)⟩

/-- The scoped buffers beside the two scratch buffers and the staging buffers. -/
def others1 (c : Dev nD) : sProp 𝕄 := (rest1_ex c).choose

/-- What is held before each point. -/
def Phi1 (c : Dev nD) (k : ℕ) : sProp 𝕄 :=
  Phi c (Memref.whole cc1_scratch0) (Memref.whole cc1_scratch1) (others1 c) 393216#32 (tbl1 W)
    (fun k => iblk1 W 0 (pt1 k)) (fun k => iblk1 W 1 (pt1 k)) k

theorem Phi1_zero (c : Dev nD) : (Pipeline.scopedRest spec1 c : sProp 𝕄) = Phi1 W c 0 := by
  rw [(rest1_ex c).choose_spec]
  unfold Phi1 Phi
  simp only [owns_whole]
  rfl

/-- The region's data. -/
def dat1 (c : Dev nD) : Dat τ (Elt F) Unit ℕ (UR sig nD τ) ℕ cfg1 c where
  A w := W (Pipeline.arrRef spec1 w)
  after w t := match w with
    | ⟨0, _⟩ => iblk1 W 0 t
    | ⟨1, _⟩ => iblk1 W 1 t
    | ⟨2, _⟩ => iblk1 W 2 t
    | ⟨3, _⟩ => iblk1 W 3 t
    | ⟨4, _⟩ => out1 W
    | ⟨5, _⟩ => norm1 W
  Φ t := Phi1 W c t.val
  q _ := fullShare
  owed _ := 0

theorem A1_eq (c : Dev nD) (w : Fin cfg1.W) : (dat1 W c).A w = W (Pipeline.arrRef spec1 w) := by dsimp only [dat1]
theorem after1_0 (c : Dev nD) (t : Fin cfg1.N) : (dat1 W c).after 0 t = iblk1 W 0 t := by dsimp only [dat1]
theorem after1_1 (c : Dev nD) (t : Fin cfg1.N) : (dat1 W c).after 1 t = iblk1 W 1 t := by dsimp only [dat1]
theorem after1_2 (c : Dev nD) (t : Fin cfg1.N) : (dat1 W c).after 2 t = iblk1 W 2 t := by dsimp only [dat1]
theorem after1_3 (c : Dev nD) (t : Fin cfg1.N) : (dat1 W c).after 3 t = iblk1 W 3 t := by dsimp only [dat1]
theorem after1_4 (c : Dev nD) (t : Fin cfg1.N) : (dat1 W c).after 4 t = out1 W := by dsimp only [dat1]
theorem after1_5 (c : Dev nD) (t : Fin cfg1.N) : (dat1 W c).after 5 t = norm1 W := by dsimp only [dat1]

/-- An input's buffer holds its block at every point. -/
theorem before1_0 (c : Dev nD) (t : Fin cfg1.N) (d) : (dat1 W c).before 0 t d = iblk1 W 0 t :=
  ((dat1 W c).before_in_eq_fetched 0 rfl (fun _ => rfl) (fun _ _ _ => rfl)
    (fun t => by rw [after1_0]; unfold Dat.blockOf iblk1; rw [A1_eq]; try rfl) t d).trans
    (by unfold Dat.fetched Dat.blockOf iblk1; rw [A1_eq]; try rfl)
theorem before1_1 (c : Dev nD) (t : Fin cfg1.N) (d) : (dat1 W c).before 1 t d = iblk1 W 1 t :=
  ((dat1 W c).before_in_eq_fetched 1 rfl (fun _ => rfl) (fun _ _ _ => rfl)
    (fun t => by rw [after1_1]; unfold Dat.blockOf iblk1; rw [A1_eq]; try rfl) t d).trans
    (by unfold Dat.fetched Dat.blockOf iblk1; rw [A1_eq]; try rfl)
theorem before1_2 (c : Dev nD) (t : Fin cfg1.N) (d) : (dat1 W c).before 2 t d = iblk1 W 2 t :=
  ((dat1 W c).before_in_eq_fetched 2 rfl (fun _ => rfl) (fun _ _ _ => rfl)
    (fun t => by rw [after1_2]; unfold Dat.blockOf iblk1; rw [A1_eq]; try rfl) t d).trans
    (by unfold Dat.fetched Dat.blockOf iblk1; rw [A1_eq]; try rfl)
theorem before1_3 (c : Dev nD) (t : Fin cfg1.N) (d) : (dat1 W c).before 3 t d = iblk1 W 3 t :=
  ((dat1 W c).before_in_eq_fetched 3 rfl (fun _ => rfl) (fun _ _ _ => rfl)
    (fun t => by rw [after1_3]; unfold Dat.blockOf iblk1; rw [A1_eq]; try rfl) t d).trans
    (by unfold Dat.fetched Dat.blockOf iblk1; rw [A1_eq]; try rfl)

/-- When the outputs are written: the first at the last point, the second at the first. -/
theorem idle1_4 : ∀ t : Fin cfg1.N, cfg1.idle 4 (cfg1.grid.coords t) = !(t.val == 5) :=
  (by decide +kernel : ∀ t : Fin grid1.N, cfg1.idle 4 (grid1.coords t) = !(t.val == 5))
theorem idle1_5 : ∀ t : Fin cfg1.N, cfg1.idle 5 (cfg1.grid.coords t) = !(t.val == 0) :=
  (by decide +kernel : ∀ t : Fin grid1.N, cfg1.idle 5 (grid1.coords t) = !(t.val == 0))
theorem fl1_4 : ∀ t : Fin cfg1.N, (cfg1.win 4).flush t = (t.val == 5) :=
  (by decide +kernel : ∀ t : Fin grid1.N, win1_4.flush t = (t.val == 5))
theorem fl1_5 : ∀ t : Fin cfg1.N, (cfg1.win 5).flush t = (t.val == 5) :=
  (by decide +kernel : ∀ t : Fin grid1.N, win1_5.flush t = (t.val == 5))

theorem fresh1_5 (n : ℕ) (h : n ≤ cfg1.N) : cfg1.fresh 5 n = (n == 0 || n == 6) :=
  Cfg.fresh_tab cfg1 5 (fun n => n == 0 || n == 6) rfl (fun t => by
    rw [fl1_5, idle1_5]
    exact (by decide +kernel : ∀ t : Fin grid1.N, ((t.val + 1 == 0) || (t.val + 1 == 6))
      = ((t.val == 5) || ((!(t.val == 0)) && ((t.val == 0) || (t.val == 6))))) t) n h

theorem before1_5 (c : Dev nD) (t : Fin cfg1.N) (d) :
    (dat1 W c).before 5 t d = if t.val = 0 then d else norm1 W := by
  rw [Dat.before_out_traj (dat1 W c) 5 rfl (fun _ _ => rfl) (fun t ht _ _ => by rw [after1_5, after1_5]) t.val t rfl d, after1_5,
    fresh1_5 _ t.isLt.le]
  have h6 : t.val ≠ 6 := (lt_of_lt_of_eq t.isLt (show cfg1.N = 6 from N_1)).ne
  by_cases h : t.val = 0 <;> simp [h, h6]

/-- What the body is called with at a point, and what it leaves. -/
def pre1 (c : Dev nD) (t : Fin cfg1.N) : sProp 𝕄 :=
  iprop((dat1 W c).Φ t.castSucc ∗ (dat1 W c).owesAt () t.castSucc
    ∗ (∃ d, owns (c : Thread nD τ) (st1_0 t) fullShare ((dat1 W c).before 0 t d))
    ∗ (∃ d, owns (c : Thread nD τ) (st1_1 t) fullShare ((dat1 W c).before 1 t d))
    ∗ (∃ d, owns (c : Thread nD τ) (st1_2 t) fullShare ((dat1 W c).before 2 t d))
    ∗ (∃ d, owns (c : Thread nD τ) (st1_3 t) fullShare ((dat1 W c).before 3 t d))
    ∗ (∃ d, owns (c : Thread nD τ) (st1_4 t) fullShare ((dat1 W c).before 4 t d))
    ∗ (∃ d, owns (c : Thread nD τ) (st1_5 t) fullShare ((dat1 W c).before 5 t d)))
def post1 (c : Dev nD) (t : Fin cfg1.N) : sProp 𝕄 :=
  iprop((dat1 W c).Φ t.succ ∗ (dat1 W c).owesAt () t.succ
    ∗ (dat1 W c).leavesExact 0 t ∗ (dat1 W c).leavesExact 1 t ∗ (dat1 W c).leavesExact 2 t
    ∗ (dat1 W c).leavesExact 3 t ∗ (dat1 W c).leavesExact 4 t ∗ (dat1 W c).leavesExact 5 t)

theorem leaves1_4 (c : Dev nD) (t : Fin cfg1.N) (d) :
    owns (c : Thread nD τ) (st1_4 t) fullShare (if t.val = 5 then out1 W else (dat1 W c).before 4 t d)
      ⊢ (dat1 W c).leavesExact 4 t := by
  by_cases h : t.val = 5
  · unfold Dat.leavesExact
    rw [idle1_4, fl1_4, after1_4, if_pos h, h]
    exact .rfl
  · have hb : (t.val == 5) = false := beq_eq_false_iff_ne.mpr h
    rw [if_neg h, Dat.leavesExact_idle (dat1 W c) 4 t (by rw [idle1_4, hb]; rfl) (by rw [fl1_4, hb])]
    iintro H
    iexists d
    iexact H

theorem leaves1_5 (c : Dev nD) (t : Fin cfg1.N) (d) :
    owns (c : Thread nD τ) (st1_5 t) fullShare (if t.val = 0 then norm1 W else (dat1 W c).before 5 t d)
      ⊢ (dat1 W c).leavesExact 5 t := by
  by_cases h : t.val = 0
  · unfold Dat.leavesExact
    rw [idle1_5, fl1_5, after1_5, if_pos h, h]
    exact .rfl
  · have hi : cfg1.idle 5 (cfg1.grid.coords t) = true := by rw [idle1_5, beq_eq_false_iff_ne.mpr h]; rfl
    rw [if_neg h]
    by_cases h5 : t.val = 5
    · unfold Dat.leavesExact
      rw [hi, fl1_5, after1_5, before1_5, if_neg h, h5]
      exact .rfl
    · rw [Dat.leavesExact_idle (dat1 W c) 5 t hi (by rw [fl1_5]; exact beq_eq_false_iff_ne.mpr h5)]
      iintro H
      iexists d
      iexact H

variable [Facts]

theorem sound1 (c : Dev nD) (t : Fin cfg1.N) :
    pre1 W c t ⊢ wp frame (wpE (defs₀ (F := F)) Variants.none c none) Set.univ (bodyAt1 t) (fun _ => post1 W c t) := by
  unfold pre1 post1
  simp only [before1_0, before1_1, before1_2, before1_3]
  rw [show (dat1 W c).owesAt () t.succ = (dat1 W c).owesAt () t.castSucc from rfl]
  rw [show (dat1 W c).Φ t.succ = Phi1 W c (t.val + 1) from rfl, show (dat1 W c).Φ t.castSucc = Phi1 W c t.val from rfl]
  rw [show (dat1 W c).leavesExact 0 t = owns (c : Thread nD τ) (st1_0 t) fullShare (iblk1 W 0 t) from by rw [← after1_0 W c],
    show (dat1 W c).leavesExact 1 t = owns (c : Thread nD τ) (st1_1 t) fullShare (iblk1 W 1 t) from by rw [← after1_1 W c],
    show (dat1 W c).leavesExact 2 t = owns (c : Thread nD τ) (st1_2 t) fullShare (iblk1 W 2 t) from by rw [← after1_2 W c],
    show (dat1 W c).leavesExact 3 t = owns (c : Thread nD τ) (st1_3 t) fullShare (iblk1 W 3 t) from by rw [← after1_3 W c]]
  have h6 : t.val < 6 := lt_of_lt_of_eq t.isLt (show cfg1.N = 6 from N_1)
  have ec : (grid1.coords t 0).val = t.val := by
    have e : (grid1.coords t 0).val = t.val / 1 % 6 := Pipeline.Grid.coords_val (G := grid1) t 0 (S := 1) (B := 6) (by decide) rfl
    rw [e, Nat.div_one, Nat.mod_eq_of_lt h6]
  unfold bodyAt1
  rw [body1, ec]
  iintro ⟨HP, Ho, ⟨%d0, H0⟩, ⟨%d1, H1⟩, ⟨%d2, H2⟩, ⟨%d3, H3⟩, ⟨%d4, H4⟩, ⟨%d5, H5⟩⟩
  have hp := point c Set.univ (hK (F := F)) uK 393216#32 (5 : Fin 6) ⟨t.val, h6⟩ (by decide) (st1_0 t) (st1_1 t) (st1_2 t) (st1_3 t)
    (st1_4 t) (st1_5 t) (Memref.whole cc1_scratch0) (Memref.whole cc1_scratch1) (others1 c)
    (fun k => iblk1 W 0 (pt1 k)) (fun k => iblk1 W 1 (pt1 k)) (iblk1 W 2 (pt1 0)) (iblk1 W 2 t) (iblk1 W 3 t)
    ((dat1 W c).before 4 t d4) ((dat1 W c).before 5 t d5) (fun h => by
      have h0 : t.val = 0 := h
      have := pt1_val t
      rw [h0] at this; rw [this])
  have q0 : (iblk1 W 0 (pt1 t.val) : Vec F S128x512 .f32) = iblk1 W 0 t := by rw [pt1_val]
  have q1 : (iblk1 W 1 (pt1 t.val) : Vec F S128x512 .f32) = iblk1 W 1 t := by rw [pt1_val]
  dsimp only at hp
  rw [q0, q1] at hp
  unfold Phi1 tbl1
  have hl4 := leaves1_4 W c t d4
  have hl5 := leaves1_5 W c t d5
  have e5 : (if (⟨t.val, h6⟩ : Fin 6) = 5 then out1 W else (dat1 W c).before 4 t d4)
      = (if t.val = 5 then out1 W else (dat1 W c).before 4 t d4) := if_congr (Fin.ext_iff) rfl rfl
  have e0 : (if t.val = 0 then zval hK uK (iblk1 W 2 t) (iblk1 W 3 t) else (dat1 W c).before 5 t d5)
      = (if t.val = 0 then norm1 W else (dat1 W c).before 5 t d5) := by
    by_cases h : t.val = 0
    · have := pt1_val t
      rw [h] at this
      rw [if_pos h, if_pos h]; unfold norm1; rw [this]
    · rw [if_neg h, if_neg h]
  rw [← e5] at hl4
  rw [← e0] at hl5
  iapply wp_wand_r
  isplitl [HP H0 H1 H2 H3 H4 H5]
  · iapply hp
    isplitl [HP]; · iexact HP
    isplitl [H0]; · iexact H0
    isplitl [H1]; · iexact H1
    isplitl [H2]; · iexact H2
    isplitl [H3]; · iexact H3
    isplitl [H4] <;> iassumption
  iintro %_ ⟨HP, H0, H1, H2, H3, H4, H5⟩
  isplitl [HP]; · iexact HP
  isplitl [Ho]; · iexact Ho
  isplitl [H0]; · iexact H0
  isplitl [H1]; · iexact H1
  isplitl [H2]; · iexact H2
  isplitl [H3]; · iexact H3
  isplitl [H4]
  · iapply hl4; iexact H4
  · iapply hl5; iexact H5

theorem obligation1 (c : Dev nD) : BodyObligation (dat1 W c) (defs₀ (F := F)) Variants.none () Set.univ := fun t => by
  rw [bigSep_W1, bigSep_W1]
  rw [show (defs₀ (F := F)) .tc cfg1.body (cfg1.bodyArgs t (cfg1.slots t)) = bodyAt1 t from by unfold defs₀; rw [Defs.onTc_tc]]
  exact triple_restated (sound1 W c t) rfl .rfl fun _ => .rfl

end Cert.KernelIdeal.Own
end
-- ==== Proof.KernelIdeal.Unfold2.lean ====
/-
  The printed bodies of the regions are the loops of `Body`.
-/
module

public import proofs.«01_k».proof.Proof.KernelIdeal.Unfold0
import Idealize.ShloMosaic.Lib.Tactic

@[expose] public section

set_option maxRecDepth 65536

namespace Cert.KernelIdeal.Own

open Idealize.ShloMosaic Idealize.SL.Sem
open Cert.KernelIdeal

variable {F : FTy → Type} [FloatOps F] [Named F] [Facts]

theorem body2 (i : grid2.Coords) (arg1 arg2 : Memref sig .tc .vmem S128x512 .f32) (harg1 : arg1.IsWhole) (harg2 : arg2.IsWhole)
    (arg3 : Memref sig .tc .vmem S6x32 .f32) (harg3 : arg3.IsWhole) (arg4 : Memref sig .tc .vmem S32x6 .f32) (harg4 : arg4.IsWhole)
    (arg5 arg6 : Memref sig .tc .vmem S1x1 .f32) (harg5 : arg5.IsWhole) (harg6 : arg6.IsWhole)
    (arg7 : Memref sig .tc .vmem S8x512 .f32) (harg7 : arg7.IsWhole) (arg8 : Memref sig .tc .smem S4x32 .f32) (harg8 : arg8.IsWhole) :
    cc2_nmsq_gm_nll (F := F) i arg1 harg1 arg2 harg2 arg3 harg3 arg4 harg4 arg5 harg5 arg6 harg6 arg7 harg7 arg8 harg8
      = body hK uK 213568#32 3#32 (BitVec.ofNat 32 (i 0).val) arg1 arg2 arg3 arg4 arg5 arg6 arg7 arg8 := by
  by_cases h : k2_cond1 i = 1#1
  · have h' : isEq (BitVec.ofNat 32 (i 0).val) 0#32 = 1#1 := h
    unfold cc2_nmsq_gm_nll k2_part131 k2_part16 body
    rw [dif_pos h, if_pos h']
    sl_kernel_rfl
  · have h' : ¬ isEq (BitVec.ofNat 32 (i 0).val) 0#32 = 1#1 := h
    unfold cc2_nmsq_gm_nll k2_part131 k2_part16 body
    rw [dif_neg h, if_neg h']
    sl_kernel_rfl

end Cert.KernelIdeal.Own
-- ==== Proof.KernelIdeal.Region2.lean ====
/-
  The third call's points: what its windows' buffers hold after each, and that its body leaves that.
-/
module

public import proofs.«01_k».proof.Proof.KernelIdeal.Point
public import proofs.«01_k».proof.Proof.KernelIdeal.Unfold2
public import proofs.«01_k».proof.Proof.Gen.KernelIdeal.Launch
public import proofs.«01_k».proof.Proof.Gen.KernelIdeal.Points
public import Idealize.ShloMosaic.Lib.Pipeline.TableIdle
public import Idealize.ShloMosaic.Lib.Pipeline.FrameBody

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal Cert.KernelIdeal.Gen

variable {F : FTy → Type} [FloatOps F] [Named F]

local notation "𝕄" => MT nD τ sig Unit (Elt F) ℕ (UR sig nD τ) ℕ

variable (W : Valuation τ sig (Elt F))

/-- A window's block at a point, of what its array holds at entry. -/
def iblk2 (w : Fin cfg2.W) (t : Fin cfg2.N) : ((cfg2.win w).xblock (cfg2.grid.coords t)).Idx → Elt F (cfg2.win w).elt :=
  ((cfg2.win w).blk t).view.read (Elt F) (W (Pipeline.arrRef spec2 w))

/-- The `k`-th point. -/
def pt2 (k : ℕ) : Fin cfg2.N := ⟨k % 4, lt_of_lt_of_eq (Nat.mod_lt k (by decide)) (show 4 = cfg2.N from N_2.symm)⟩

theorem pt2_val (t : Fin cfg2.N) : pt2 t.val = t :=
  Fin.ext (Nat.mod_eq_of_lt (lt_of_lt_of_eq t.isLt (show cfg2.N = 4 from N_2)))

/-- The clusters' table, and what the accumulator holds after each point. -/
def tbl2 : Vec F S4x32 .f32 := tableOf hK uK (iblk2 W 2 (pt2 0))
def acc2 (k : ℕ) : FVec F S8x512 .f32 :=
  accAt 213568#32 (tbl2 W) (fun k => iblk2 W 0 (pt2 k)) (fun k => iblk2 W 1 (pt2 k)) k

/-- What the two outputs are left with. -/
def out2 : Vec F S1x1 .f32 := total (acc2 W 3)
def norm2 : Vec F S1x1 .f32 := zval hK uK (iblk2 W 2 (pt2 0)) (iblk2 W 3 (pt2 0))

theorem rest2_ex (c : Dev nD) : ∃ R : sProp 𝕄, (Pipeline.scopedRest spec2 c : sProp 𝕄)
    = iprop((∃ f : Buf (Elt F) ((c : Thread nD τ).loc cc2_scratch0), ((c : Thread nD τ).loc cc2_scratch0) ↦{fullShare} f)
      ∗ (∃ f : Buf (Elt F) ((c : Thread nD τ).loc cc2_scratch1), ((c : Thread nD τ).loc cc2_scratch1) ↦{fullShare} f) ∗ R) :=
  ⟨_, Pipeline.scopedRest_eq_of_list spec2 c [cc2_scratch0, cc2_scratch1, cc0_stg0_0, cc0_stg0_1, cc0_stg1_0, cc0_stg1_1, cc0_stg2_0, cc0_stg3_0, cc0_stg4_0, cc0_stg5_0, cc0_scratch0, cc0_scratch1, cc1_stg0_0, cc1_stg0_1, cc1_stg1_0, cc1_stg1_1, cc1_stg2_0, cc1_stg3_0, cc1_stg4_0, cc1_stg5_0, cc1_scratch0, cc1_scratch1] (by decide) (by decide)⟩

/-- The scoped buffers beside the two scratch buffers and the staging buffers. -/
def others2 (c : Dev nD) : sProp 𝕄 := (rest2_ex c).choose

/-- What is held before each point. -/
def Phi2 (c : Dev nD) (k : ℕ) : sProp 𝕄 :=
  Phi c (Memref.whole cc2_scratch0) (Memref.whole cc2_scratch1) (others2 c) 213568#32 (tbl2 W)
    (fun k => iblk2 W 0 (pt2 k)) (fun k => iblk2 W 1 (pt2 k)) k

theorem Phi2_zero (c : Dev nD) : (Pipeline.scopedRest spec2 c : sProp 𝕄) = Phi2 W c 0 := by
  rw [(rest2_ex c).choose_spec]
  unfold Phi2 Phi
  simp only [owns_whole]
  rfl

/-- The region's data. -/
def dat2 (c : Dev nD) : Dat τ (Elt F) Unit ℕ (UR sig nD τ) ℕ cfg2 c where
  A w := W (Pipeline.arrRef spec2 w)
  after w t := match w with
    | ⟨0, _⟩ => iblk2 W 0 t
    | ⟨1, _⟩ => iblk2 W 1 t
    | ⟨2, _⟩ => iblk2 W 2 t
    | ⟨3, _⟩ => iblk2 W 3 t
    | ⟨4, _⟩ => out2 W
    | ⟨5, _⟩ => norm2 W
  Φ t := Phi2 W c t.val
  q _ := fullShare
  owed _ := 0

theorem A2_eq (c : Dev nD) (w : Fin cfg2.W) : (dat2 W c).A w = W (Pipeline.arrRef spec2 w) := by dsimp only [dat2]
theorem after2_0 (c : Dev nD) (t : Fin cfg2.N) : (dat2 W c).after 0 t = iblk2 W 0 t := by dsimp only [dat2]
theorem after2_1 (c : Dev nD) (t : Fin cfg2.N) : (dat2 W c).after 1 t = iblk2 W 1 t := by dsimp only [dat2]
theorem after2_2 (c : Dev nD) (t : Fin cfg2.N) : (dat2 W c).after 2 t = iblk2 W 2 t := by dsimp only [dat2]
theorem after2_3 (c : Dev nD) (t : Fin cfg2.N) : (dat2 W c).after 3 t = iblk2 W 3 t := by dsimp only [dat2]
theorem after2_4 (c : Dev nD) (t : Fin cfg2.N) : (dat2 W c).after 4 t = out2 W := by dsimp only [dat2]
theorem after2_5 (c : Dev nD) (t : Fin cfg2.N) : (dat2 W c).after 5 t = norm2 W := by dsimp only [dat2]

/-- An input's buffer holds its block at every point. -/
theorem before2_0 (c : Dev nD) (t : Fin cfg2.N) (d) : (dat2 W c).before 0 t d = iblk2 W 0 t :=
  ((dat2 W c).before_in_eq_fetched 0 rfl (fun _ => rfl) (fun _ _ _ => rfl)
    (fun t => by rw [after2_0]; unfold Dat.blockOf iblk2; rw [A2_eq]; try rfl) t d).trans
    (by unfold Dat.fetched Dat.blockOf iblk2; rw [A2_eq]; try rfl)
theorem before2_1 (c : Dev nD) (t : Fin cfg2.N) (d) : (dat2 W c).before 1 t d = iblk2 W 1 t :=
  ((dat2 W c).before_in_eq_fetched 1 rfl (fun _ => rfl) (fun _ _ _ => rfl)
    (fun t => by rw [after2_1]; unfold Dat.blockOf iblk2; rw [A2_eq]; try rfl) t d).trans
    (by unfold Dat.fetched Dat.blockOf iblk2; rw [A2_eq]; try rfl)
theorem before2_2 (c : Dev nD) (t : Fin cfg2.N) (d) : (dat2 W c).before 2 t d = iblk2 W 2 t :=
  ((dat2 W c).before_in_eq_fetched 2 rfl (fun _ => rfl) (fun _ _ _ => rfl)
    (fun t => by rw [after2_2]; unfold Dat.blockOf iblk2; rw [A2_eq]; try rfl) t d).trans
    (by unfold Dat.fetched Dat.blockOf iblk2; rw [A2_eq]; try rfl)
theorem before2_3 (c : Dev nD) (t : Fin cfg2.N) (d) : (dat2 W c).before 3 t d = iblk2 W 3 t :=
  ((dat2 W c).before_in_eq_fetched 3 rfl (fun _ => rfl) (fun _ _ _ => rfl)
    (fun t => by rw [after2_3]; unfold Dat.blockOf iblk2; rw [A2_eq]; try rfl) t d).trans
    (by unfold Dat.fetched Dat.blockOf iblk2; rw [A2_eq]; try rfl)

/-- When the outputs are written: the first at the last point, the second at the first. -/
theorem idle2_4 : ∀ t : Fin cfg2.N, cfg2.idle 4 (cfg2.grid.coords t) = !(t.val == 3) :=
  (by decide +kernel : ∀ t : Fin grid2.N, cfg2.idle 4 (grid2.coords t) = !(t.val == 3))
theorem idle2_5 : ∀ t : Fin cfg2.N, cfg2.idle 5 (cfg2.grid.coords t) = !(t.val == 0) :=
  (by decide +kernel : ∀ t : Fin grid2.N, cfg2.idle 5 (grid2.coords t) = !(t.val == 0))
theorem fl2_4 : ∀ t : Fin cfg2.N, (cfg2.win 4).flush t = (t.val == 3) :=
  (by decide +kernel : ∀ t : Fin grid2.N, win2_4.flush t = (t.val == 3))
theorem fl2_5 : ∀ t : Fin cfg2.N, (cfg2.win 5).flush t = (t.val == 3) :=
  (by decide +kernel : ∀ t : Fin grid2.N, win2_5.flush t = (t.val == 3))

theorem fresh2_5 (n : ℕ) (h : n ≤ cfg2.N) : cfg2.fresh 5 n = (n == 0 || n == 4) :=
  Cfg.fresh_tab cfg2 5 (fun n => n == 0 || n == 4) rfl (fun t => by
    rw [fl2_5, idle2_5]
    exact (by decide +kernel : ∀ t : Fin grid2.N, ((t.val + 1 == 0) || (t.val + 1 == 4))
      = ((t.val == 3) || ((!(t.val == 0)) && ((t.val == 0) || (t.val == 4))))) t) n h

theorem before2_5 (c : Dev nD) (t : Fin cfg2.N) (d) :
    (dat2 W c).before 5 t d = if t.val = 0 then d else norm2 W := by
  rw [Dat.before_out_traj (dat2 W c) 5 rfl (fun _ _ => rfl) (fun t ht _ _ => by rw [after2_5, after2_5]) t.val t rfl d, after2_5,
    fresh2_5 _ t.isLt.le]
  have h6 : t.val ≠ 4 := (lt_of_lt_of_eq t.isLt (show cfg2.N = 4 from N_2)).ne
  by_cases h : t.val = 0 <;> simp [h, h6]

/-- What the body is called with at a point, and what it leaves. -/
def pre2 (c : Dev nD) (t : Fin cfg2.N) : sProp 𝕄 :=
  iprop((dat2 W c).Φ t.castSucc ∗ (dat2 W c).owesAt () t.castSucc
    ∗ (∃ d, owns (c : Thread nD τ) (st2_0 t) fullShare ((dat2 W c).before 0 t d))
    ∗ (∃ d, owns (c : Thread nD τ) (st2_1 t) fullShare ((dat2 W c).before 1 t d))
    ∗ (∃ d, owns (c : Thread nD τ) (st2_2 t) fullShare ((dat2 W c).before 2 t d))
    ∗ (∃ d, owns (c : Thread nD τ) (st2_3 t) fullShare ((dat2 W c).before 3 t d))
    ∗ (∃ d, owns (c : Thread nD τ) (st2_4 t) fullShare ((dat2 W c).before 4 t d))
    ∗ (∃ d, owns (c : Thread nD τ) (st2_5 t) fullShare ((dat2 W c).before 5 t d)))
def post2 (c : Dev nD) (t : Fin cfg2.N) : sProp 𝕄 :=
  iprop((dat2 W c).Φ t.succ ∗ (dat2 W c).owesAt () t.succ
    ∗ (dat2 W c).leavesExact 0 t ∗ (dat2 W c).leavesExact 1 t ∗ (dat2 W c).leavesExact 2 t
    ∗ (dat2 W c).leavesExact 3 t ∗ (dat2 W c).leavesExact 4 t ∗ (dat2 W c).leavesExact 5 t)

theorem leaves2_4 (c : Dev nD) (t : Fin cfg2.N) (d) :
    owns (c : Thread nD τ) (st2_4 t) fullShare (if t.val = 3 then out2 W else (dat2 W c).before 4 t d)
      ⊢ (dat2 W c).leavesExact 4 t := by
  by_cases h : t.val = 3
  · unfold Dat.leavesExact
    rw [idle2_4, fl2_4, after2_4, if_pos h, h]
    exact .rfl
  · have hb : (t.val == 3) = false := beq_eq_false_iff_ne.mpr h
    rw [if_neg h, Dat.leavesExact_idle (dat2 W c) 4 t (by rw [idle2_4, hb]; rfl) (by rw [fl2_4, hb])]
    iintro H
    iexists d
    iexact H

theorem leaves2_5 (c : Dev nD) (t : Fin cfg2.N) (d) :
    owns (c : Thread nD τ) (st2_5 t) fullShare (if t.val = 0 then norm2 W else (dat2 W c).before 5 t d)
      ⊢ (dat2 W c).leavesExact 5 t := by
  by_cases h : t.val = 0
  · unfold Dat.leavesExact
    rw [idle2_5, fl2_5, after2_5, if_pos h, h]
    exact .rfl
  · have hi : cfg2.idle 5 (cfg2.grid.coords t) = true := by rw [idle2_5, beq_eq_false_iff_ne.mpr h]; rfl
    rw [if_neg h]
    by_cases h5 : t.val = 3
    · unfold Dat.leavesExact
      rw [hi, fl2_5, after2_5, before2_5, if_neg h, h5]
      exact .rfl
    · rw [Dat.leavesExact_idle (dat2 W c) 5 t hi (by rw [fl2_5]; exact beq_eq_false_iff_ne.mpr h5)]
      iintro H
      iexists d
      iexact H

variable [Facts]

theorem sound2 (c : Dev nD) (t : Fin cfg2.N) :
    pre2 W c t ⊢ wp frame (wpE (defs₀ (F := F)) Variants.none c none) Set.univ (bodyAt2 t) (fun _ => post2 W c t) := by
  unfold pre2 post2
  simp only [before2_0, before2_1, before2_2, before2_3]
  rw [show (dat2 W c).owesAt () t.succ = (dat2 W c).owesAt () t.castSucc from rfl]
  rw [show (dat2 W c).Φ t.succ = Phi2 W c (t.val + 1) from rfl, show (dat2 W c).Φ t.castSucc = Phi2 W c t.val from rfl]
  rw [show (dat2 W c).leavesExact 0 t = owns (c : Thread nD τ) (st2_0 t) fullShare (iblk2 W 0 t) from by rw [← after2_0 W c],
    show (dat2 W c).leavesExact 1 t = owns (c : Thread nD τ) (st2_1 t) fullShare (iblk2 W 1 t) from by rw [← after2_1 W c],
    show (dat2 W c).leavesExact 2 t = owns (c : Thread nD τ) (st2_2 t) fullShare (iblk2 W 2 t) from by rw [← after2_2 W c],
    show (dat2 W c).leavesExact 3 t = owns (c : Thread nD τ) (st2_3 t) fullShare (iblk2 W 3 t) from by rw [← after2_3 W c]]
  have h4 : t.val < 4 := lt_of_lt_of_eq t.isLt (show cfg2.N = 4 from N_2)
  have h6 : t.val < 6 := lt_trans h4 (by decide)
  have ec : (grid2.coords t 0).val = t.val := by
    have e : (grid2.coords t 0).val = t.val / 1 % 4 := Pipeline.Grid.coords_val (G := grid2) t 0 (S := 1) (B := 4) (by decide) rfl
    rw [e, Nat.div_one, Nat.mod_eq_of_lt h4]
  unfold bodyAt2
  rw [body2, ec]
  iintro ⟨HP, Ho, ⟨%d0, H0⟩, ⟨%d1, H1⟩, ⟨%d2, H2⟩, ⟨%d3, H3⟩, ⟨%d4, H4⟩, ⟨%d5, H5⟩⟩
  have hp := point c Set.univ (hK (F := F)) uK 213568#32 (3 : Fin 6) ⟨t.val, h6⟩ (by decide) (st2_0 t) (st2_1 t) (st2_2 t) (st2_3 t)
    (st2_4 t) (st2_5 t) (Memref.whole cc2_scratch0) (Memref.whole cc2_scratch1) (others2 c)
    (fun k => iblk2 W 0 (pt2 k)) (fun k => iblk2 W 1 (pt2 k)) (iblk2 W 2 (pt2 0)) (iblk2 W 2 t) (iblk2 W 3 t)
    ((dat2 W c).before 4 t d4) ((dat2 W c).before 5 t d5) (fun h => by
      have h0 : t.val = 0 := h
      have := pt2_val t
      rw [h0] at this; rw [this])
  have q0 : (iblk2 W 0 (pt2 t.val) : Vec F S128x512 .f32) = iblk2 W 0 t := by rw [pt2_val]
  have q1 : (iblk2 W 1 (pt2 t.val) : Vec F S128x512 .f32) = iblk2 W 1 t := by rw [pt2_val]
  dsimp only at hp
  rw [q0, q1] at hp
  unfold Phi2 tbl2
  have hl4 := leaves2_4 W c t d4
  have hl5 := leaves2_5 W c t d5
  have e5 : (if (⟨t.val, h6⟩ : Fin 6) = 3 then out2 W else (dat2 W c).before 4 t d4)
      = (if t.val = 3 then out2 W else (dat2 W c).before 4 t d4) := if_congr (Fin.ext_iff) rfl rfl
  have e0 : (if t.val = 0 then zval hK uK (iblk2 W 2 t) (iblk2 W 3 t) else (dat2 W c).before 5 t d5)
      = (if t.val = 0 then norm2 W else (dat2 W c).before 5 t d5) := by
    by_cases h : t.val = 0
    · have := pt2_val t
      rw [h] at this
      rw [if_pos h, if_pos h]; unfold norm2; rw [this]
    · rw [if_neg h, if_neg h]
  rw [← e5] at hl4
  rw [← e0] at hl5
  iapply wp_wand_r
  isplitl [HP H0 H1 H2 H3 H4 H5]
  · iapply hp
    isplitl [HP]; · iexact HP
    isplitl [H0]; · iexact H0
    isplitl [H1]; · iexact H1
    isplitl [H2]; · iexact H2
    isplitl [H3]; · iexact H3
    isplitl [H4] <;> iassumption
  iintro %_ ⟨HP, H0, H1, H2, H3, H4, H5⟩
  isplitl [HP]; · iexact HP
  isplitl [Ho]; · iexact Ho
  isplitl [H0]; · iexact H0
  isplitl [H1]; · iexact H1
  isplitl [H2]; · iexact H2
  isplitl [H3]; · iexact H3
  isplitl [H4]
  · iapply hl4; iexact H4
  · iapply hl5; iexact H5

theorem obligation2 (c : Dev nD) : BodyObligation (dat2 W c) (defs₀ (F := F)) Variants.none () Set.univ := fun t => by
  rw [bigSep_W2, bigSep_W2]
  rw [show (defs₀ (F := F)) .tc cfg2.body (cfg2.bodyArgs t (cfg2.slots t)) = bodyAt2 t from by unfold defs₀; rw [Defs.onTc_tc]]
  exact triple_restated (sound2 W c t) rfl .rfl fun _ => .rfl

end Cert.KernelIdeal.Own
end
-- ==== Proof.KernelIdeal.Run.lean ====
/-
  The three regions in @main, and its run: what it ends with.
-/
module

public import proofs.«01_k».proof.Proof.KernelIdeal.Region0
public import proofs.«01_k».proof.Proof.KernelIdeal.Region1
public import proofs.«01_k».proof.Proof.KernelIdeal.Region2
public import proofs.«01_k».proof.Proof.Gen.KernelIdeal.Regions
public import Idealize.ShloMosaic.Lib.Pipeline.RegionArraysS

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation Seg RegionSeg arrRef afterRegion)
open Cert.KernelIdeal Cert.KernelIdeal.Gen

variable {F : FTy → Type} [FloatOps F] [Named F]

local notation "𝕄" => MT nD τ sig Unit (Elt F) ℕ (UR sig nD τ) ℕ

/-- After a region its inputs are as they were, and its two outputs are replaced. -/
theorem afterRegion_two {cfg : Cfg sig Λ₀} {c : Dev nD} (dat : Dat τ (Elt F) Unit ℕ (UR sig nD τ) ℕ cfg c) (V : Valuation τ sig (Elt F))
    (hinj : Function.Injective (arrRef cfg.spec)) (hA : ∀ w, dat.A w = V (Proc.devRef .tc (arrRef cfg.spec w)))
    (r1 r2 : Ref sig .tc) (hout : ∀ w, (cfg.win w).isOut = true → arrRef cfg.spec w = r1 ∨ arrRef cfg.spec w = r2) :
    Function.update (Function.update V r1 (afterRegion dat V r1)) r2 (afterRegion dat V r2) = afterRegion dat V := by
  funext b
  by_cases h2 : b = Proc.devRef .tc r2
  · subst h2; rw [Function.update_self]
  rw [Function.update_of_ne h2]
  by_cases h1 : b = Proc.devRef .tc r1
  · subst h1; rw [Function.update_self]
  rw [Function.update_of_ne h1]
  by_cases hb : ∃ w, b = Proc.devRef .tc (arrRef cfg.spec w)
  · obtain ⟨w, rfl⟩ := hb
    have hin : (cfg.win w).isOut = false := by
      cases h : (cfg.win w).isOut with
      | false => rfl
      | true => rcases hout w h with e | e
                · exact absurd (by rw [e]) h1
                · exact absurd (by rw [e]) h2
    exact ((Pipeline.afterRegion_arr dat V hinj w).trans ((dat.arrAt_in w hin _).trans (hA w))).symm
  · unfold Pipeline.afterRegion
    rw [dif_neg hb]

variable (m : (ℓ : Loc nD τ sig) → Buf (Elt F) ℓ) (ρ : Dev nD → PrngReg)

/-- What the regions leave: the first from the arguments, each later one from what those before it left. -/
def left0 : Outs (F := F) := fun _ r c => afterRegion (dat0 (V3 m c) c) (V3 m c) r
def left1 : Outs (F := F) := fun j r c => match j with
  | 4 => left0 m 4 r c
  | _ => afterRegion (dat1 (V7 m (left0 m) c) c) (V7 m (left0 m) c) r
def left : Outs (F := F) := fun j r c => match j with
  | 4 => left0 m 4 r c
  | 8 => left1 m 8 r c
  | _ => afterRegion (dat2 (V11 m (left1 m) c) c) (V11 m (left1 m) c) r

/-- The data of the three regions. -/
def pdats (p : Fin 3) (c : Dev nD) : Dat τ (Elt F) Unit ℕ (UR sig nD τ) ℕ (cfgs p) c := match p with
  | ⟨0, _⟩ => dat0 (V3 m c) c
  | ⟨1, _⟩ => dat1 (V7 m (left m) c) c
  | ⟨2, _⟩ => dat2 (V11 m (left m) c) c

/-- Only a core waits, and all at one level. -/
def L (g : GSem nD τ sig) : Finset Unit := if g.1.2 = .tc then {()} else ∅
def lv (_ : GSem nD τ sig) (_ : Unit) : ℕ := 0

/-- A core owes nothing. -/
def owesNone (c : Dev nD) : sProp 𝕄 := iprop(∃ Wd, owes (c : Thread nD τ) (0 : CellTallies nD τ sig Unit) Wd)

theorem cut (p : Fin 3) : Pipeline.LevelCut (pcfgs (F := F)) adm () L lv p (fun _ => 0) (fun _ => 0) where
  hι c w s := by unfold L; rw [if_pos rfl]; exact Finset.mem_singleton_self _
  hιb _ _ _ := le_refl _
  hD c g i h := absurd h (lt_irrefl _)

/-- The first call in @main. -/
def reg0 : RegionSeg (pcfgs (F := F)) adm (pdats m) () defs₀ Variants.none L lv 0 :=
  RegionSeg.ofHeldIn (pcfgs (F := F)) adm (pdats m) () defs₀ Variants.none L lv 0 (fun _ => 0) (Pipeline.ucRefs τ sig)
    (fun _ => BI.emp) (fun _ => BI.emp) launch0.toP rfl
    (fun c => (obligation0 (V3 m c) c).loose) (fun _ _ => rfl) (fun _ => rfl)
    (fun c => (dat0 (V3 m c) c).share_full fun _ => rfl)
    (fun c => by
      show iprop(Pipeline.scopedRest spec0 c ∗ BI.emp) ⊢ Phi0 (V3 m c) c 0
      rw [← Phi0_zero]
      iintro ⟨H, -⟩
      iexact H)
    (fun c => by
      show Phi0 (V3 m c) c cfg0.N ⊢ iprop(Pipeline.scopedRest spec0 c ∗ BI.emp)
      rw [Phi0_zero (V3 m c), show cfg0.N = 5 + 1 from N_0]
      unfold Phi0 Phi
      iintro ⟨H1, H2, HR⟩
      isplitl
      · isplitl [H1]; · iexists _; iexact H1
        isplitl [H2]; · iexists _; iexact H2
        iexact HR
      · iempintro)
    (fun _ => 0) (cut 0) (fun _ => BI.emp) (fun c => V3 m c) (fun c w => A0_eq (V3 m c) c w)

theorem arrRefs0 : Pipeline.arrRefs (pcfgs (F := F) 0).spec ⊆ Pipeline.ucRefs τ sig := by
  intro b hb
  obtain ⟨r, hr, rfl⟩ := Finset.mem_map.mp hb
  obtain ⟨w, -, rfl⟩ := Finset.mem_image.mp hr
  exact Finset.mem_filter.mpr ⟨StableHlo.devRef_mem_tcRefs _, (by decide : ∀ w : Fin 6, ¬ (Proc.devRef (τ := τ) .tc (arrRef spec0 w)).isScoped = true) w⟩

theorem enter0 (c : Dev nD) : iprop(StableHlo.held (c : Thread nD τ) (Pipeline.ucRefs τ sig) (V3 m c) ∗ owesNone c) ⊢ (reg0 m).pre c := by
  refine .trans ?_ (RegionSeg.ofHeldIn_pre (p := 0) (arrRefs0 (F := F)) c)
  unfold owesNone
  iintro ⟨H, HO⟩
  isplitl [H]; · iexact H
  isplitl [HO]; · iexact HO
  isplitl [] <;> iempintro

theorem after0 (c : Dev nD) : V4 m (left m) c = afterRegion (dat0 (V3 m c) c) (V3 m c) :=
  afterRegion_two (dat0 (V3 m c) c) (V3 m c) winFacts0.arr_inj (fun w => A0_eq (V3 m c) c w) main_v25_0 main_v25_1
    (fun w => by revert w; decide)

theorem leave0 (c : Dev nD) : (reg0 m).post c ⊢ iprop(StableHlo.held (c : Thread nD τ) (Pipeline.ucRefs τ sig) (V4 m (left m) c) ∗ owesNone c) := by
  rw [after0]
  refine .trans (RegionSeg.ofHeldIn_post (p := 0) (arrRefs0 (F := F)) c) ?_
  unfold owesNone
  iintro ⟨H, HO, -, -⟩
  isplitl [H]; · iexact H
  iexact HO

/-- The second call in @main. -/
def reg1 : RegionSeg (pcfgs (F := F)) adm (pdats m) () defs₀ Variants.none L lv 1 :=
  RegionSeg.ofHeldIn (pcfgs (F := F)) adm (pdats m) () defs₀ Variants.none L lv 1 (fun _ => 0) (Pipeline.ucRefs τ sig)
    (fun _ => BI.emp) (fun _ => BI.emp) launch1.toP rfl
    (fun c => (obligation1 (V7 m (left m) c) c).loose) (fun _ _ => rfl) (fun _ => rfl)
    (fun c => (dat1 (V7 m (left m) c) c).share_full fun _ => rfl)
    (fun c => by
      show iprop(Pipeline.scopedRest spec1 c ∗ BI.emp) ⊢ Phi1 (V7 m (left m) c) c 0
      rw [← Phi1_zero]
      iintro ⟨H, -⟩
      iexact H)
    (fun c => by
      show Phi1 (V7 m (left m) c) c cfg1.N ⊢ iprop(Pipeline.scopedRest spec1 c ∗ BI.emp)
      rw [Phi1_zero (V7 m (left m) c), show cfg1.N = 5 + 1 from N_1]
      unfold Phi1 Phi
      iintro ⟨H1, H2, HR⟩
      isplitl
      · isplitl [H1]; · iexists _; iexact H1
        isplitl [H2]; · iexists _; iexact H2
        iexact HR
      · iempintro)
    (fun _ => 0) (cut 1) (fun _ => BI.emp) (fun c => V7 m (left m) c) (fun c w => A1_eq (V7 m (left m) c) c w)

theorem arrRefs1 : Pipeline.arrRefs (pcfgs (F := F) 1).spec ⊆ Pipeline.ucRefs τ sig := by
  intro b hb
  obtain ⟨r, hr, rfl⟩ := Finset.mem_map.mp hb
  obtain ⟨w, -, rfl⟩ := Finset.mem_image.mp hr
  exact Finset.mem_filter.mpr ⟨StableHlo.devRef_mem_tcRefs _, (by decide : ∀ w : Fin 6, ¬ (Proc.devRef (τ := τ) .tc (arrRef spec1 w)).isScoped = true) w⟩

theorem enter1 (c : Dev nD) : iprop(StableHlo.held (c : Thread nD τ) (Pipeline.ucRefs τ sig) (V7 m (left m) c) ∗ owesNone c) ⊢ (reg1 m).pre c := by
  refine .trans ?_ (RegionSeg.ofHeldIn_pre (p := 1) (arrRefs1 (F := F)) c)
  unfold owesNone
  iintro ⟨H, HO⟩
  isplitl [H]; · iexact H
  isplitl [HO]; · iexact HO
  isplitl [] <;> iempintro

theorem after1 (c : Dev nD) : V8 m (left m) c = afterRegion (dat1 (V7 m (left m) c) c) (V7 m (left m) c) :=
  afterRegion_two (dat1 (V7 m (left m) c) c) (V7 m (left m) c) winFacts1.arr_inj (fun w => A1_eq (V7 m (left m) c) c w) main_v35_0 main_v35_1
    (fun w => by revert w; decide)

theorem leave1 (c : Dev nD) : (reg1 m).post c ⊢ iprop(StableHlo.held (c : Thread nD τ) (Pipeline.ucRefs τ sig) (V8 m (left m) c) ∗ owesNone c) := by
  rw [after1]
  refine .trans (RegionSeg.ofHeldIn_post (p := 1) (arrRefs1 (F := F)) c) ?_
  unfold owesNone
  iintro ⟨H, HO, -, -⟩
  isplitl [H]; · iexact H
  iexact HO

/-- The third call in @main. -/
def reg2 : RegionSeg (pcfgs (F := F)) adm (pdats m) () defs₀ Variants.none L lv 2 :=
  RegionSeg.ofHeldIn (pcfgs (F := F)) adm (pdats m) () defs₀ Variants.none L lv 2 (fun _ => 0) (Pipeline.ucRefs τ sig)
    (fun _ => BI.emp) (fun _ => BI.emp) launch2.toP rfl
    (fun c => (obligation2 (V11 m (left m) c) c).loose) (fun _ _ => rfl) (fun _ => rfl)
    (fun c => (dat2 (V11 m (left m) c) c).share_full fun _ => rfl)
    (fun c => by
      show iprop(Pipeline.scopedRest spec2 c ∗ BI.emp) ⊢ Phi2 (V11 m (left m) c) c 0
      rw [← Phi2_zero]
      iintro ⟨H, -⟩
      iexact H)
    (fun c => by
      show Phi2 (V11 m (left m) c) c cfg2.N ⊢ iprop(Pipeline.scopedRest spec2 c ∗ BI.emp)
      rw [Phi2_zero (V11 m (left m) c), show cfg2.N = 3 + 1 from N_2]
      unfold Phi2 Phi
      iintro ⟨H1, H2, HR⟩
      isplitl
      · isplitl [H1]; · iexists _; iexact H1
        isplitl [H2]; · iexists _; iexact H2
        iexact HR
      · iempintro)
    (fun _ => 0) (cut 2) (fun _ => BI.emp) (fun c => V11 m (left m) c) (fun c w => A2_eq (V11 m (left m) c) c w)

theorem arrRefs2 : Pipeline.arrRefs (pcfgs (F := F) 2).spec ⊆ Pipeline.ucRefs τ sig := by
  intro b hb
  obtain ⟨r, hr, rfl⟩ := Finset.mem_map.mp hb
  obtain ⟨w, -, rfl⟩ := Finset.mem_image.mp hr
  exact Finset.mem_filter.mpr ⟨StableHlo.devRef_mem_tcRefs _, (by decide : ∀ w : Fin 6, ¬ (Proc.devRef (τ := τ) .tc (arrRef spec2 w)).isScoped = true) w⟩

theorem enter2 (c : Dev nD) : iprop(StableHlo.held (c : Thread nD τ) (Pipeline.ucRefs τ sig) (V11 m (left m) c) ∗ owesNone c) ⊢ (reg2 m).pre c := by
  refine .trans ?_ (RegionSeg.ofHeldIn_pre (p := 2) (arrRefs2 (F := F)) c)
  unfold owesNone
  iintro ⟨H, HO⟩
  isplitl [H]; · iexact H
  isplitl [HO]; · iexact HO
  isplitl [] <;> iempintro

theorem after2 (c : Dev nD) : V12 m (left m) c = afterRegion (dat2 (V11 m (left m) c) c) (V11 m (left m) c) :=
  afterRegion_two (dat2 (V11 m (left m) c) c) (V11 m (left m) c) winFacts2.arr_inj (fun w => A2_eq (V11 m (left m) c) c w) main_v46_0 main_v46_1
    (fun w => by revert w; decide)

theorem leave2 (c : Dev nD) : (reg2 m).post c ⊢ iprop(StableHlo.held (c : Thread nD τ) (Pipeline.ucRefs τ sig) (V12 m (left m) c) ∗ owesNone c) := by
  rw [after2]
  refine .trans (RegionSeg.ofHeldIn_post (p := 2) (arrRefs2 (F := F)) c) ?_
  unfold owesNone
  iintro ⟨H, HO, -, -⟩
  isplitl [H]; · iexact H
  iexact HO

/-- Every argument ends unchanged, and the result is what the last lines compute of what the regions left. -/
abbrev Ends (c : Dev nD) (s : MemSt nD τ sig (Elt F)) : Prop :=
  s.mem ((c.tc : Thread nD τ).loc main_v54) = V13 m (left m) c main_v54
  ∧ s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)

/-- A buffer of the host is read off the last valuation. -/
theorem read_last {c : Dev nD} {s : MemSt nD τ sig (Elt F)} {V : Valuation τ sig (Elt F)}
    (h : ∀ b ∈ Pipeline.ucRefs τ sig, s.mem ((c : Thread nD τ).1, b) = V b) (r : Ref sig .tc)
    (hr : ¬ (Proc.devRef (τ := τ) .tc r).isScoped = true) : s.mem ((c.tc : Thread nD τ).loc r) = V r :=
  h (Proc.devRef .tc r) (Finset.mem_filter.mpr ⟨StableHlo.devRef_mem_tcRefs r, hr⟩)

set_option backward.isDefEq.respectTransparency.types false in
/-- The run of @main from any memory. -/
theorem run : θ_run defs (onTc (τ := τ) (main (F := F))) ⟨m, fun _ => 0, ρ⟩ (fun r => (∀ c : Dev nD, Ends m c r.2) ∧ r.2.sem = fun _ => 0) := by
  refine Pipeline.θ_run_regions_kit_dev_sems (pcfgs (F := F)) adm (pdats m) () cellOf_inj emb₁ defs₀ Variants.none L lv m ρ main
    (segs m (left m) Variants.none L lv (fun _ => owesNone) () (pdats m) (reg0 m) (reg1 m) (reg2 m))
    (fun c Q => by
      rewrite [main_chain c, Seg.run_eq_chain,
        show (segs m (left m) Variants.none L lv (fun _ => owesNone) () (pdats m) (reg0 m) (reg1 m) (reg2 m) c).map Seg.prog = [
          StableHlo.seq hostOps0, StableHlo.seq hostOps0_1, StableHlo.seq hostOps0_2, Prog.lift (.customCall (Pipeline.entry 0) ()),
          StableHlo.seq hostOps1, StableHlo.seq hostOps1_1, StableHlo.seq hostOps1_2, Prog.lift (.customCall (Pipeline.entry 1) ()),
          StableHlo.seq hostOps2, StableHlo.seq hostOps2_1, StableHlo.seq hostOps2_2, Prog.lift (.customCall (Pipeline.entry 2) ()),
          StableHlo.seq hostOps3 ] from rfl]
      dsimp (config := { failIfUnchanged := false }) only
      exact .rfl)
    (fun c => by simp only [segs, Seg.pipes_host, Seg.pipes_region, Seg.pipes_nil]; decide) (fun _ => 0)
    (fun g hg => if_neg hg) (fun _ => BI.emp) (initOf (Pipeline.cells cfgs cellOf_inj) (Pipeline.launchToks cfgs cellOf_inj))
    (by
      rw [ownU_emb₁]
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ owesNone c))
    (Tₙ := fun c => StableHlo.held (c : Thread nD τ) (Pipeline.ucRefs τ sig) (V13 m (left m) c))
    (hch := fun c => ⟨.rfl, .rfl, .rfl, enter0 m c, leave0 m c, .rfl, .rfl, enter1 m c, leave1 m c, .rfl, .rfl, enter2 m c, leave2 m c,
      sep_mono .rfl .rfl⟩)
    (hinit := ?_) (QY := fun c s => Ends m c s)
    (hfin := fun c s' => ?_) (hQ := fun _ h hz => ⟨h, funext fun g => hz g (.inr (regions_no_unscoped g.2))⟩)
  · refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, -, -⟩, -⟩
    imodintro
    isplitl [Hh]; · iexact Hh
    unfold owesNone
    iexists ∅; iexact HO
  · unfold StableHlo.held
    iintro ⟨Hh, HSI⟩
    ihave Hr := (pointsTo_read_all (Pipeline.ucRefs τ sig) (fun b => ((c : Thread nD τ).1, b)) (V13 m (left m) c) s') $$ [Hh HSI]
    · isplitl [Hh] <;> iassumption
    icases Hr with ⟨%h, HSI⟩
    imodintro
    isplitr
    · ipureintro
      exact ⟨read_last h main_v54 (by decide),
        (read_last h main_arg0 (by decide)).trans (V13_main_arg0 m (left m) c),
        (read_last h main_arg1 (by decide)).trans (V13_main_arg1 m (left m) c),
        (read_last h main_arg2 (by decide)).trans (V13_main_arg2 m (left m) c),
        (read_last h main_arg3 (by decide)).trans (V13_main_arg3 m (left m) c),
        (read_last h main_arg4 (by decide)).trans (V13_main_arg4 m (left m) c)⟩
    · iexact HSI

end Cert.KernelIdeal.Own
end
-- ==== Proof.Ends.lean ====
/-
  The claims that are not about values: the programs end, with their arguments as they were and every counter at
  zero, and the named constants are what they are named after.
-/
module

public import proofs.«01_k».proof.Defs
public import proofs.«01_k».proof.Proof.Kernel.Run
public import proofs.«01_k».proof.Proof.KernelIdeal.Run
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

theorem kernel_ends : Cert.quiescent_Kernel (hKernel := Cert.Kernel.Gen.facts) := fun m g _ =>
  (θ_run _ _ _).mono (fun _ h => ⟨fun c => (h.1 c).2, h.2⟩) (Cert.Kernel.Own.run (F := Bits) m g)

theorem kernelIdeal_ends : Cert.quiescent_KernelIdeal (hKernelIdeal := Cert.KernelIdeal.Gen.facts) := fun m g _ =>
  (θ_run _ _ _).mono (fun _ h => ⟨fun c => (h.1 c).2, h.2⟩) (Cert.KernelIdeal.Own.run (F := Ideal) m g)

theorem referenceIdeal_ends : Cert.quiescent_ReferenceIdeal (hReferenceIdeal := Cert.ReferenceIdeal.Gen.facts) := fun m g _ =>
  (θ_run _ _ _).mono (fun r h => ⟨fun c => (h c).2, sem_eq_zero_of_no_sems (by decide) r.2⟩)
    (Cert.ReferenceIdeal.Value.run (F := Ideal) m g)

theorem constants : Cert.preserves_Kernel_KernelIdeal :=
  ⟨IdealRules.named_const.statement Cert.KernelIdeal.κ "inv_two_pi" .f32 0x3E22F983#32 (((2 * Real.pi)⁻¹ : ℝ) : EReal) rfl,
    IdealRules.named_const.statement Cert.KernelIdeal.κ "neg_half_log2e" .f32 0xBF38AA3B#32 ((-((2 * (Real.log 2))⁻¹) : ℝ) : EReal) rfl⟩

end Cert.Proof

end
-- ==== Proof.Value.Real.lean ====
/-
  The mathematics over the reals: the clusters' factors, the mixture's density at a point, the pairwise sum and why it
  is not negative, and the two ways to write the result, which agree on the extended reals.
-/
module

public import Idealize.ShloMosaic.PureOps.Ideal
public import Mathlib.Analysis.SpecificLimits.Normed
public import Mathlib.Tactic.LinearCombination
public import Mathlib.Tactic.FieldSimp

@[expose] public section

noncomputable section

namespace Cert.Proof

open Idealize.ShloMosaic
open scoped BigOperators

/-! ## The clusters -/

/-- The upper left entry of the factor. -/
def f00 (a : ℝ) : ℝ := √(a * a + 1)

/-- The lower left entry. -/
def f10 (a b : ℝ) : ℝ := a * b / f00 a

/-- The lower right entry. -/
def f11 (a b c : ℝ) : ℝ := √(b * b + c * c + 1 - f10 a b * f10 a b)

theorem f00_pos (a : ℝ) : 0 < f00 a := Real.sqrt_pos.mpr (by nlinarith [mul_self_nonneg a])

theorem f11_arg_pos (a b c : ℝ) : 0 < b * b + c * c + 1 - f10 a b * f10 a b := by
  have h : f10 a b * f10 a b = a * a * (b * b) / (a * a + 1) := by
    unfold f10 f00
    rw [div_mul_div_comm, Real.mul_self_sqrt (by nlinarith [mul_self_nonneg a])]
    ring
  have hp : (0 : ℝ) < a * a + 1 := by nlinarith [mul_self_nonneg a]
  have h2 : a * a * (b * b) / (a * a + 1) ≤ b * b := by
    rw [div_le_iff₀ hp]; nlinarith [mul_self_nonneg b]
  rw [h]; nlinarith [mul_self_nonneg c]

theorem f11_pos (a b c : ℝ) : 0 < f11 a b c := Real.sqrt_pos.mpr (f11_arg_pos a b c)

/-- The finite parameters of the clusters. -/
structure Params where
  /-- The upper left entries of the triangles. -/
  c00 : Fin 32 → ℝ
  /-- The lower left entries. -/
  c10 : Fin 32 → ℝ
  /-- The lower right entries. -/
  c11 : Fin 32 → ℝ
  /-- The weights. -/
  w : Fin 32 → ℝ

namespace Params

variable (P : Params)

/-- The factors' entries. -/
def a (k : Fin 32) : ℝ := f00 (P.c00 k)
def b (k : Fin 32) : ℝ := f10 (P.c00 k) (P.c10 k)
def c (k : Fin 32) : ℝ := f11 (P.c00 k) (P.c10 k) (P.c11 k)

theorem a_pos (k : Fin 32) : 0 < P.a k := f00_pos _
theorem c_pos (k : Fin 32) : 0 < P.c k := f11_pos _ _ _

/-- The quadratic form of a cluster at a point. -/
def quad (k : Fin 32) (x y : ℝ) : ℝ :=
  x * x * (1 / P.a k) + x * y * (-(P.b k * (1 / P.a k) * (1 / P.c k))) + y * y * (1 / P.c k)

/-- A cluster's weighted density at a point. -/
def part (k : Fin 32) (x y : ℝ) : ℝ :=
  P.w k * (2 * Real.pi)⁻¹ * (√(P.a k * P.c k))⁻¹ * Real.exp (-(1 / 2) * P.quad k x y)

/-- The mixture's density at a point. -/
def mix (x y : ℝ) : ℝ := ∑ k, P.part k x y

/-- The pair term of two clusters with a common mean. -/
def pair (i j : Fin 32) : ℝ := (2 * Real.pi)⁻¹ * (√((P.a i + P.a j) * (P.c i + P.c j)))⁻¹ * (P.w i * P.w j)

/-- The pairwise sum. -/
def Z : ℝ := ∑ i, ∑ j, P.pair i j

end Params

/-! ## The pairwise sum is not negative

  A kernel here is a matrix that keeps, multiplied entry by entry, every positive semidefinite matrix positive
  semidefinite. Products of a row with itself are kernels, and so are sums, products and limits of kernels, and with them
  the inverse square root of `1 - rᵢ rⱼ`. -/

/-- A positive semidefinite form. -/
def Psd {n : ℕ} (M : Fin n → Fin n → ℝ) : Prop := ∀ u : Fin n → ℝ, 0 ≤ ∑ i, ∑ j, u i * u j * M i j

/-- A kernel. -/
def IsKernel {n : ℕ} (K : Fin n → Fin n → ℝ) : Prop := ∀ M, Psd M → Psd fun i j => K i j * M i j

namespace IsKernel

variable {n : ℕ} {K L : Fin n → Fin n → ℝ}

theorem row (v : Fin n → ℝ) : IsKernel fun i j => v i * v j := fun M hM u => by
  refine (hM fun i => u i * v i).trans (le_of_eq ?_)
  exact Finset.sum_congr rfl fun i _ => Finset.sum_congr rfl fun j _ => by ring

theorem add (hK : IsKernel K) (hL : IsKernel L) : IsKernel fun i j => K i j + L i j := fun M hM u => by
  refine (add_nonneg (hK M hM u) (hL M hM u)).trans (le_of_eq ?_)
  rw [← Finset.sum_add_distrib]
  refine Finset.sum_congr rfl fun i _ => ?_
  rw [← Finset.sum_add_distrib]
  exact Finset.sum_congr rfl fun j _ => by ring

theorem mul (hK : IsKernel K) (hL : IsKernel L) : IsKernel fun i j => K i j * L i j := fun M hM u => by
  refine (hK _ (hL M hM) u).trans (le_of_eq ?_)
  exact Finset.sum_congr rfl fun i _ => Finset.sum_congr rfl fun j _ => by ring

theorem const {r : ℝ} (hr : 0 ≤ r) : IsKernel (n := n) fun _ _ => r := fun M hM u => by
  refine (mul_nonneg hr (hM u)).trans (le_of_eq ?_)
  rw [Finset.mul_sum]
  refine Finset.sum_congr rfl fun i _ => ?_
  rw [Finset.mul_sum]
  exact Finset.sum_congr rfl fun j _ => by ring

theorem pow (hK : IsKernel K) : ∀ k : ℕ, IsKernel fun i j => K i j ^ k
  | 0 => by simpa using const (n := n) zero_le_one
  | k + 1 => by simpa only [pow_succ] using (pow hK k).mul hK

open Filter Topology in
theorem lim {A : ℕ → Fin n → Fin n → ℝ} (hA : ∀ k, IsKernel (A k)) (h : ∀ i j, Tendsto (fun k => A k i j) atTop (𝓝 (K i j))) :
    IsKernel K := fun M hM u =>
  ge_of_tendsto' (tendsto_finset_sum _ fun i _ => tendsto_finset_sum _ fun j _ =>
    ((h i j).mul_const (M i j)).const_mul (u i * u j)) fun k => hA k M hM u

end IsKernel

/-- A sequence whose limit is `1 - √(1 - x)`, by nonnegative combinations of powers of `x`. -/
def rootSeq (x : ℝ) : ℕ → ℝ
  | 0 => 0
  | k + 1 => (x + rootSeq x k * rootSeq x k) * (1 / 2)

theorem rootSeq_abs {x : ℝ} (hx : |x| < 1) (k : ℕ) : |rootSeq x k| ≤ 1 - √(1 - |x|) := by
  have hs : √(1 - |x|) * √(1 - |x|) = 1 - |x| := Real.mul_self_sqrt (by linarith)
  have h1 : √(1 - |x|) ≤ 1 := Real.sqrt_le_one.mpr (by linarith [abs_nonneg x])
  induction k with
  | zero => simpa [rootSeq] using h1
  | succ k ih =>
    have h2 : |rootSeq x k * rootSeq x k| ≤ (1 - √(1 - |x|)) * (1 - √(1 - |x|)) := by
      rw [abs_mul]; exact mul_le_mul ih ih (abs_nonneg _) (by linarith)
    have h3 := abs_add_le x (rootSeq x k * rootSeq x k)
    show |(x + rootSeq x k * rootSeq x k) * (1 / 2)| ≤ _
    rw [abs_mul, abs_of_pos (by norm_num : (0 : ℝ) < 1 / 2)]
    nlinarith

open Filter Topology in
theorem rootSeq_tendsto {x : ℝ} (hx : |x| < 1) : Tendsto (rootSeq x) atTop (𝓝 (1 - √(1 - x))) := by
  obtain ⟨hlo, hhi⟩ := abs_lt.mp hx
  have hs : √(1 - x) * √(1 - x) = 1 - x := Real.mul_self_sqrt (by linarith)
  have hs0 : 0 ≤ √(1 - x) := Real.sqrt_nonneg _
  have hs2 : √(1 - x) ≤ 2 := by nlinarith
  have hp : 0 < √(1 - |x|) := Real.sqrt_pos.mpr (by linarith)
  have h1 : √(1 - |x|) ≤ 1 := Real.sqrt_le_one.mpr (by linarith [abs_nonneg x])
  have hq0 : 0 ≤ 1 - √(1 - |x|) / 2 := by linarith
  have hq1 : 1 - √(1 - |x|) / 2 < 1 := by linarith
  have he : ∀ k, |rootSeq x k - (1 - √(1 - x))| ≤ (1 - √(1 - |x|) / 2) ^ k := fun k => by
    induction k with
    | zero =>
      show |0 - (1 - √(1 - x))| ≤ (1 - √(1 - |x|) / 2) ^ 0
      rw [pow_zero, abs_le]; constructor <;> linarith
    | succ k ih =>
      have e : rootSeq x (k + 1) - (1 - √(1 - x)) = (rootSeq x k - (1 - √(1 - x))) * ((rootSeq x k + (1 - √(1 - x))) / 2) := by
        show (x + rootSeq x k * rootSeq x k) * (1 / 2) - (1 - √(1 - x)) = _
        linear_combination (1 / 2 : ℝ) * hs
      have hb := abs_le.mp (rootSeq_abs hx k)
      rw [e, abs_mul, pow_succ]
      refine mul_le_mul ih ?_ (abs_nonneg _) (pow_nonneg hq0 k)
      rw [abs_le]; constructor <;> linarith
  refine tendsto_iff_norm_sub_tendsto_zero.mpr (squeeze_zero (fun k => norm_nonneg _) (fun k => ?_)
    (tendsto_pow_atTop_nhds_zero_of_lt_one hq0 hq1))
  exact he k

/-- The inverse square root of `1 - rᵢ rⱼ` is a kernel. -/
theorem IsKernel.inv_sqrt_one_sub {n : ℕ} (r : Fin n → ℝ) (hr : ∀ i, |r i| < 1) :
    IsKernel fun i j => (√(1 - r i * r j))⁻¹ := by
  have hx : ∀ i j, |r i * r j| < 1 := fun i j => by
    rw [abs_mul]; nlinarith [hr i, hr j, abs_nonneg (r i), abs_nonneg (r j)]
  have hk : ∀ k, IsKernel fun i j => rootSeq (r i * r j) k := fun k => by
    induction k with
    | zero => exact IsKernel.const le_rfl
    | succ k ih => exact ((IsKernel.row r).add (ih.mul ih)).mul (IsKernel.const (by norm_num))
  have hy : IsKernel fun i j => 1 - √(1 - r i * r j) := IsKernel.lim hk fun i j => rootSeq_tendsto (hx i j)
  have hg : ∀ k, IsKernel fun i j => ∑ l ∈ Finset.range k, (1 - √(1 - r i * r j)) ^ l := fun k => by
    induction k with
    | zero => exact IsKernel.const le_rfl
    | succ k ih => simpa only [Finset.sum_range_succ] using ih.add (hy.pow k)
  refine IsKernel.lim hg fun i j => ?_
  obtain ⟨hlo, hhi⟩ := abs_lt.mp (hx i j)
  have hs : √(1 - r i * r j) * √(1 - r i * r j) = 1 - r i * r j := Real.mul_self_sqrt (by linarith)
  have hs0 : 0 < √(1 - r i * r j) := Real.sqrt_pos.mpr (by linarith)
  have hs2 : √(1 - r i * r j) < 2 := by nlinarith
  have h := (hasSum_geometric_of_abs_lt_one (r := 1 - √(1 - r i * r j)) (abs_lt.mpr ⟨by linarith, by linarith⟩)).tendsto_sum_nat
  rwa [sub_sub_cancel] at h

/-- The inverse square root of the sums of positive numbers is a kernel. -/
theorem IsKernel.inv_sqrt_add {n : ℕ} (a : Fin n → ℝ) (ha : ∀ i, 0 < a i) : IsKernel fun i j => (√(a i + a j))⁻¹ := by
  have hr : ∀ i, |(a i - 1) / (a i + 1)| < 1 := fun i => by
    have := ha i
    rw [abs_div, abs_of_pos (by linarith : 0 < a i + 1), div_lt_one (by linarith), abs_lt]; constructor <;> linarith
  have h := ((IsKernel.const (n := n) (inv_nonneg.mpr (Real.sqrt_nonneg (1 / 2 : ℝ)))).mul
    (IsKernel.row fun i => (√(a i + 1))⁻¹)).mul (IsKernel.inv_sqrt_one_sub _ hr)
  refine (funext fun i => funext fun j => ?_ : (fun i j => (√(a i + a j))⁻¹) = _) ▸ h
  have hi := ha i
  have hj := ha j
  have e : a i + a j = 1 / 2 * ((a i + 1) * (a j + 1)) * (1 - (a i - 1) / (a i + 1) * ((a j - 1) / (a j + 1))) := by
    field_simp; ring
  conv_lhs => rw [e]
  rw [Real.sqrt_mul (by positivity), Real.sqrt_mul (by norm_num), Real.sqrt_mul (by linarith), mul_inv, mul_inv, mul_inv]

theorem Params.Z_nonneg (P : Params) : 0 ≤ P.Z := by
  have h1 : Psd (n := 32) fun _ _ => 1 := fun u => by
    refine (mul_self_nonneg (∑ i, u i)).trans (le_of_eq ?_)
    rw [Finset.sum_mul_sum]
    exact Finset.sum_congr rfl fun i _ => Finset.sum_congr rfl fun j _ => (mul_one _).symm
  have h := ((IsKernel.const (inv_nonneg.mpr (mul_nonneg zero_le_two Real.pi_pos.le))).mul
    ((IsKernel.inv_sqrt_add P.a P.a_pos).mul (IsKernel.inv_sqrt_add P.c P.c_pos))) _ h1 P.w
  refine h.trans (le_of_eq ?_)
  unfold Params.Z Params.pair
  refine Finset.sum_congr rfl fun i _ => Finset.sum_congr rfl fun j _ => ?_
  rw [Real.sqrt_mul (add_pos (P.a_pos i) (P.a_pos j)).le, mul_inv]
  ring

/-! ## The operations at finite values -/

theorem div_real (x : ℝ) {y : ℝ} (hy : y ≠ 0) : Ideal.div (x : EReal) (y : EReal) = ((x / y : ℝ) : EReal) := by
  rw [Ideal.div_coe hy, ← EReal.coe_mul, mul_one_div]

theorem sqrt_real {x : ℝ} (hx : 0 ≤ x) : Ideal.sqrt (x : EReal) = ((√x : ℝ) : EReal) := by
  rw [Ideal.sqrt_coe, if_neg (not_lt.mpr hx)]

theorem rsqrt_real {x : ℝ} (hx : 0 < x) : Ideal.rsqrt (x : EReal) = (((√x)⁻¹ : ℝ) : EReal) := by
  rw [Ideal.rsqrt_coe, if_neg (not_lt.mpr hx.le), if_neg hx.ne']

theorem sum_real {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The factor's entries, as the programs compute them. -/
theorem f00_real (a : ℝ) : Ideal.sqrt ((a : EReal) * (a : EReal) + 1) = ((f00 a : ℝ) : EReal) := by
  rw [show (1 : EReal) = ((1 : ℝ) : EReal) from rfl, ← EReal.coe_mul, ← EReal.coe_add,
    sqrt_real (by nlinarith [mul_self_nonneg a])]; rfl

theorem f10_real (a b : ℝ) : Ideal.div ((a : EReal) * (b : EReal)) ((f00 a : ℝ) : EReal) = ((f10 a b : ℝ) : EReal) := by
  rw [← EReal.coe_mul, div_real _ (f00_pos a).ne']; rfl

theorem f11_real (a b c : ℝ) :
    Ideal.sqrt ((b : EReal) * (b : EReal) + (c : EReal) * (c : EReal) + 1 - ((f10 a b : ℝ) : EReal) * ((f10 a b : ℝ) : EReal))
      = ((f11 a b c : ℝ) : EReal) := by
  rw [show (1 : EReal) = ((1 : ℝ) : EReal) from rfl, ← EReal.coe_mul, ← EReal.coe_mul, ← EReal.coe_mul, ← EReal.coe_add,
    ← EReal.coe_add, ← EReal.coe_sub, sqrt_real (f11_arg_pos a b c).le]; rfl

theorem one_div_real {y : ℝ} (hy : y ≠ 0) : Ideal.div 1 (y : EReal) = ((1 / y : ℝ) : EReal) := div_real 1 hy

/-- The exponential, to the base two, of half the quadratic form over the logarithm of two. -/
theorem exp2_scaled (q : ℝ) : Real.rpow 2 (-(2 * Real.log 2)⁻¹ * q) = Real.exp (-(1 / 2) * q) := by
  have h2 : Real.log 2 ≠ 0 := (Real.log_pos one_lt_two).ne'
  show (2 : ℝ) ^ (-(2 * Real.log 2)⁻¹ * q) = _
  rw [Real.rpow_def_of_pos two_pos]
  congr 1
  field_simp

/-! ## The result -/

theorem log_pos_real {x : ℝ} (hx : 0 < x) : Ideal.log (x : EReal) = ((Real.log x : ℝ) : EReal) := by
  rw [Ideal.log_coe, if_neg (not_le.mpr hx)]

theorem log_zero_real : Ideal.log ((0 : ℝ) : EReal) = ⊥ := by rw [Ideal.log_coe, if_pos le_rfl]

/-- The exponential of a shifted logarithm. -/
theorem exp_log_sub {p : ℝ} (hp : 0 ≤ p) (t : ℝ) :
    Ideal.exp (Ideal.log (p : EReal) - (t : EReal)) = ((p * Real.exp (-t) : ℝ) : EReal) := by
  rcases hp.eq_or_lt with rfl | h
  · rw [log_zero_real, EReal.bot_sub, Ideal.exp_bot, zero_mul]; rfl
  · rw [log_pos_real h, ← EReal.coe_sub, Ideal.exp_coe, Real.exp_sub, Real.exp_log h, Real.exp_neg, div_eq_mul_inv]

/-- The shifted logarithm of a shifted sum is the sum's logarithm. -/
theorem log_shift {S : ℝ} (hS : 0 ≤ S) (t : ℝ) :
    Ideal.log ((S * Real.exp (-t) : ℝ) : EReal) + (t : EReal) = Ideal.log (S : EReal) := by
  rcases hS.eq_or_lt with rfl | h
  · rw [zero_mul, log_zero_real, EReal.bot_add]
  · rw [log_pos_real h, log_pos_real (mul_pos h (Real.exp_pos _)), Real.log_mul h.ne' (Real.exp_pos _).ne', Real.log_exp,
      ← EReal.coe_add]
    congr 1; ring

/-- The logarithm of the sum of the exponentials of the shifted logarithms of the quotients, shifted back: the
    difference of the logarithms, with any finite shift. -/
theorem logsumexp_eq {ι : Type} [Fintype ι] (s : ι → ℝ) (hs : ∀ n, 0 ≤ s n) {Z : ℝ} (hZ : 0 ≤ Z) (t : ℝ) :
    Ideal.log (∑ n, Ideal.exp (Ideal.log (Ideal.div (s n : EReal) (Z : EReal)) - (t : EReal))) + (t : EReal)
      = Ideal.log ((∑ n, s n : ℝ) : EReal) - Ideal.log (Z : EReal) := by
  classical
  have hT : 0 ≤ ∑ n, s n := Finset.sum_nonneg fun n _ => hs n
  rcases hZ.eq_or_lt with rfl | hZ
  · have hd : ∀ n, Ideal.exp (Ideal.log (Ideal.div (s n : EReal) ((0 : ℝ) : EReal)) - (t : EReal)) = if 0 < s n then ⊤ else 0 := fun n => by
      have h0 : Ideal.div (s n : EReal) ((0 : ℝ) : EReal) = if 0 < s n then ⊤ else ⊥ := by
        unfold Ideal.div
        rw [if_pos (by rfl)]
        simp only [EReal.coe_pos]
      rw [h0]
      split
      · rw [Ideal.log_top, EReal.top_sub_coe, Ideal.exp_top]
      · rw [Ideal.log_bot, EReal.bot_sub, Ideal.exp_bot]
    simp only [hd]
    rw [log_zero_real]
    rcases hT.eq_or_lt with h | h
    · have hz : ∀ n, s n = 0 := fun n => (Finset.sum_eq_zero_iff_of_nonneg fun n _ => hs n).mp h.symm n (Finset.mem_univ n)
      have : ∀ n, (if 0 < s n then (⊤ : EReal) else 0) = 0 := fun n => by rw [hz n, if_neg (lt_irrefl _)]
      simp only [this, Finset.sum_const_zero]
      rw [← h, show ((0 : EReal)) = ((0 : ℝ) : EReal) from rfl, log_zero_real, EReal.bot_add, EReal.bot_sub]
    · obtain ⟨n, -, hn⟩ := Finset.exists_lt_of_sum_lt (s := Finset.univ) (f := fun _ : ι => (0 : ℝ)) (g := s) (by simpa using h)
      have htop : ∑ n, (if 0 < s n then (⊤ : EReal) else 0) = ⊤ := by
        rw [← Finset.add_sum_erase _ _ (Finset.mem_univ n), if_pos hn]
        refine EReal.top_add_of_ne_bot (ne_of_gt (lt_of_lt_of_le EReal.bot_lt_zero (Finset.sum_nonneg fun i _ => ?_)))
        split
        · exact le_top
        · exact le_rfl
      rw [htop, Ideal.log_top, EReal.top_add_coe, log_pos_real h, EReal.coe_sub_bot]
  · have hd : ∀ n, Ideal.exp (Ideal.log (Ideal.div (s n : EReal) (Z : EReal)) - (t : EReal)) = ((s n / Z * Real.exp (-t) : ℝ) : EReal) := fun n => by
      rw [div_real _ hZ.ne', exp_log_sub (div_nonneg (hs n) hZ.le)]
    simp only [hd]
    rw [sum_real, ← Finset.sum_mul, ← Finset.sum_div, log_shift (div_nonneg hT hZ.le), log_pos_real hZ]
    rcases hT.eq_or_lt with h | h
    · rw [← h, zero_div, log_zero_real, EReal.bot_sub]
    · rw [log_pos_real (div_pos h hZ), log_pos_real h, Real.log_div h.ne' hZ.ne', EReal.coe_sub]

/-- Dividing the negated value or negating the divided one. -/
theorem neg_div {y : ℝ} (hy : y ≠ 0) (x : EReal) : Ideal.div (-x) (y : EReal) = -(Ideal.div x (y : EReal)) := by
  rw [Ideal.div_coe hy, Ideal.div_coe hy, EReal.neg_mul]

/-! ## The arguments -/

/-- Finite points, zero means and finite parameters, as the programs are given them. -/
structure Inputs (P : Params) (xs ys : ℕ → ℝ) (X : Fin 1000000 → Fin 2 → EReal) (M : Fin 32 → Fin 2 → EReal)
    (C : Fin 32 → Fin 2 → Fin 2 → EReal) (W : Fin 32 → EReal) : Prop where
  x : ∀ n, X n 0 = ((xs n.val : ℝ) : EReal)
  y : ∀ n, X n 1 = ((ys n.val : ℝ) : EReal)
  m : ∀ k i, M k i = 0
  c00 : ∀ k, C k 0 0 = ((P.c00 k : ℝ) : EReal)
  c10 : ∀ k, C k 1 0 = ((P.c10 k : ℝ) : EReal)
  c11 : ∀ k, C k 1 1 = ((P.c11 k : ℝ) : EReal)
  w : ∀ k, W k = ((P.w k : ℝ) : EReal)

end Cert.Proof

end
-- ==== Proof.Value.Block.lean ====
/-
  The values of a call's points over the extended reals: the table, the pairwise sum and the squares.
-/
module

public import proofs.«01_k».proof.Proof.KernelIdeal.Point
public import proofs.«01_k».proof.Proof.Value.Real
public import Idealize.ShloMosaic.Lib.Pointwise

@[expose] public section

set_option maxRecDepth 16384

noncomputable section

namespace Cert.KernelIdeal.Own

open Idealize.ShloMosaic Idealize.SL.Sem
open Cert.KernelIdeal Cert.Proof

variable [Facts]
open Facts₀ Facts

theorem exp2_ideal (x : Ideal .f32) : FloatOps.exp2 x = Ideal.exp2 x := rfl

/-! ## The table -/

section Table

variable (h u : Ideal .f32) (pr : Vec Ideal S6x32 .f32) (pc : Vec Ideal S32x6 .f32) (k : Fin 32)

theorem word_apply (row : FVec Ideal S1x32 .f32) : word row k = row (ix2 0 k) := by
  pointwise [word]

/-- The factor's entries at a cluster, from the rows of parameters. -/
def rowL00 : EReal := Ideal.sqrt (pr (ix2 0 k) * pr (ix2 0 k) + 1)
def rowL10 : EReal := Ideal.div (pr (ix2 0 k) * pr (ix2 1 k)) (rowL00 pr k)
def rowL11 : EReal :=
  Ideal.sqrt (pr (ix2 1 k) * pr (ix2 1 k) + pr (ix2 2 k) * pr (ix2 2 k) + 1 - rowL10 pr k * rowL10 pr k)

/-- The same from the columns. -/
def colL00 : EReal := Ideal.sqrt (pc (ix2 k 0) * pc (ix2 k 0) + 1)
def colL10 : EReal := Ideal.div (pc (ix2 k 0) * pc (ix2 k 1)) (colL00 pc k)
def colL11 : EReal :=
  Ideal.sqrt (pc (ix2 k 1) * pc (ix2 k 1) + pc (ix2 k 2) * pc (ix2 k 2) + 1 - colL10 pc k * colL10 pc k)

theorem rowA_apply : rowA h pr (ix2 0 k) = h * Ideal.div 1 (rowL00 pr k) := by
  pointwise [rowA, chol00, prow, one, rowL00]

theorem rowC_apply : rowC h pr (ix2 0 k) = h * Ideal.div 1 (rowL11 pr k) := by
  pointwise [rowC, chol00, chol10, chol11, prow, one, rowL00, rowL10, rowL11]

theorem rowB_apply : rowB h pr (ix2 0 k)
    = h * (0 - rowL10 pr k * Ideal.div 1 (rowL00 pr k) * Ideal.div 1 (rowL11 pr k)) := by
  pointwise [rowB, chol00, chol10, chol11, prow, one, zero, rowL00, rowL10, rowL11]

theorem rowW_apply : rowW u pr (ix2 0 k) = pr (ix2 5 k) * u * Ideal.rsqrt (rowL00 pr k * rowL11 pr k) := by
  pointwise [rowW, chol00, chol10, chol11, prow, one, zero, rowL00, rowL10, rowL11]

theorem zval_apply : zval h u pr pc (ix2 0 0) = ∑ i : Fin 32, ∑ j : Fin 32,
    Ideal.exp2 (h * ((pc (ix2 i 3) - pr (ix2 3 j)) * (pc (ix2 i 3) - pr (ix2 3 j)) * Ideal.div 1 (colL00 pc i + rowL00 pr j)
        - (colL10 pc i + rowL10 pr j) * Ideal.div 1 (colL00 pc i + rowL00 pr j) * Ideal.div 1 (colL11 pc i + rowL11 pr j)
          * (pc (ix2 i 3) - pr (ix2 3 j)) * (pc (ix2 i 4) - pr (ix2 4 j))
        + (pc (ix2 i 4) - pr (ix2 4 j)) * (pc (ix2 i 4) - pr (ix2 4 j)) * Ideal.div 1 (colL11 pc i + rowL11 pr j)))
      * u * Ideal.rsqrt ((colL00 pc i + rowL00 pr j) * (colL11 pc i + rowL11 pr j)) * (pc (ix2 i 5) * pr (ix2 5 j)) := by
  pointwise [zval, chol00, chol10, chol11, prow, pcol, one, zero, rowL00, rowL10, rowL11, colL00, colL10, colL11, exp2_ideal]

end Table

/-! ## Finite parameters -/

/-- The rows hold these parameters, and zero means. -/
structure RowsAre (P : Params) (pr : Vec Ideal S6x32 .f32) : Prop where
  r0 : ∀ k, pr (ix2 0 k) = ((P.c00 k : ℝ) : EReal)
  r1 : ∀ k, pr (ix2 1 k) = ((P.c10 k : ℝ) : EReal)
  r2 : ∀ k, pr (ix2 2 k) = ((P.c11 k : ℝ) : EReal)
  r3 : ∀ k, pr (ix2 3 k) = 0
  r4 : ∀ k, pr (ix2 4 k) = 0
  r5 : ∀ k, pr (ix2 5 k) = ((P.w k : ℝ) : EReal)

/-- The columns hold them. -/
def ColsAre (P : Params) (pc : Vec Ideal S32x6 .f32) : Prop := RowsAre P fun j => pc (ix2 (j 1) (j 0))

section Finite

variable {P : Params} {pr : Vec Ideal S6x32 .f32} {pc : Vec Ideal S32x6 .f32} (hr : RowsAre P pr) (hc : ColsAre P pc)
include hr

theorem rowL00_real (k : Fin 32) : rowL00 pr k = ((P.a k : ℝ) : EReal) := by
  unfold rowL00; rw [hr.r0]; exact f00_real _

theorem rowL10_real (k : Fin 32) : rowL10 pr k = ((P.b k : ℝ) : EReal) := by
  unfold rowL10; rw [rowL00_real hr, hr.r0, hr.r1]; exact f10_real _ _

theorem rowL11_real (k : Fin 32) : rowL11 pr k = ((P.c k : ℝ) : EReal) := by
  unfold rowL11; rw [rowL10_real hr, hr.r1, hr.r2]; exact f11_real _ _ _

include hc
omit hr

theorem colL00_real (k : Fin 32) : colL00 pc k = ((P.a k : ℝ) : EReal) := rowL00_real hc k
theorem colL10_real (k : Fin 32) : colL10 pc k = ((P.b k : ℝ) : EReal) := rowL10_real hc k
theorem colL11_real (k : Fin 32) : colL11 pc k = ((P.c k : ℝ) : EReal) := rowL11_real hc k

end Finite

/-- The scale of the exponents and the factor of the normalisations. -/
theorem scale_real : (Named.named κ "neg_half_log2e" 0xBF38AA3B#32 : Ideal .f32) = ((-((2 * (Real.log 2))⁻¹) : ℝ) : EReal) := rfl
theorem unit_real : (Named.named κ "inv_two_pi" 0x3E22F983#32 : Ideal .f32) = (((2 * Real.pi)⁻¹ : ℝ) : EReal) := rfl

/-- A cluster's four coefficients. -/
def coef (P : Params) (k : Fin 32) : ℝ × ℝ × ℝ × ℝ :=
  (-((2 * (Real.log 2))⁻¹) * (1 / P.a k), -((2 * (Real.log 2))⁻¹) * (-(P.b k * (1 / P.a k) * (1 / P.c k))),
    -((2 * (Real.log 2))⁻¹) * (1 / P.c k), P.w k * (2 * Real.pi)⁻¹ * (√(P.a k * P.c k))⁻¹)

/-- Its coefficients are finite ones in a table. -/
def TableIs (P : Params) (T : Vec Ideal S4x32 .f32) : Prop := ∀ k, quadOf T k
  = (((coef P k).1 : EReal), ((coef P k).2.1 : EReal), ((coef P k).2.2.1 : EReal), ((coef P k).2.2.2 : EReal))

theorem table_real {P : Params} {pr : Vec Ideal S6x32 .f32} (hr : RowsAre P pr) :
    TableIs P (tableOf (Named.named κ "neg_half_log2e" 0xBF38AA3B#32) (Named.named κ "inv_two_pi" 0x3E22F983#32) pr) := fun k => by
  have ha := P.a_pos k
  have hc := P.c_pos k
  have e0 : tableOf (Named.named κ "neg_half_log2e" 0xBF38AA3B#32) (Named.named κ "inv_two_pi" 0x3E22F983#32) pr (tix 0 k)
      = (((coef P k).1 : ℝ) : EReal) := by
    refine (word_apply k (rowA _ pr)).trans ?_
    rw [rowA_apply, rowL00_real hr, scale_real, one_div_real ha.ne', ← EReal.coe_mul]; rfl
  have e1 : tableOf (Named.named κ "neg_half_log2e" 0xBF38AA3B#32) (Named.named κ "inv_two_pi" 0x3E22F983#32) pr (tix 1 k)
      = (((coef P k).2.1 : ℝ) : EReal) := by
    refine (word_apply k (rowB _ pr)).trans ?_
    rw [rowB_apply, rowL00_real hr, rowL10_real hr, rowL11_real hr, scale_real, one_div_real ha.ne', one_div_real hc.ne',
      zero_sub, ← EReal.coe_mul, ← EReal.coe_mul, ← EReal.coe_neg, ← EReal.coe_mul]; rfl
  have e2 : tableOf (Named.named κ "neg_half_log2e" 0xBF38AA3B#32) (Named.named κ "inv_two_pi" 0x3E22F983#32) pr (tix 2 k)
      = (((coef P k).2.2.1 : ℝ) : EReal) := by
    refine (word_apply k (rowC _ pr)).trans ?_
    rw [rowC_apply, rowL11_real hr, scale_real, one_div_real hc.ne', ← EReal.coe_mul]; rfl
  have e3 : tableOf (Named.named κ "neg_half_log2e" 0xBF38AA3B#32) (Named.named κ "inv_two_pi" 0x3E22F983#32) pr (tix 3 k)
      = (((coef P k).2.2.2 : ℝ) : EReal) := by
    refine (word_apply k (rowW _ pr)).trans ?_
    rw [rowW_apply, rowL00_real hr, rowL11_real hr, unit_real, hr.r5, ← EReal.coe_mul, ← EReal.coe_mul,
      rsqrt_real (mul_pos ha hc), ← EReal.coe_mul]; rfl
  exact Prod.ext e0 (Prod.ext e1 (Prod.ext e2 e3))

/-- The pairwise sum is the mathematical one. -/
theorem zval_real {P : Params} {pr : Vec Ideal S6x32 .f32} {pc : Vec Ideal S32x6 .f32} (hr : RowsAre P pr) (hc : ColsAre P pc) :
    zval (Named.named κ "neg_half_log2e" 0xBF38AA3B#32) (Named.named κ "inv_two_pi" 0x3E22F983#32) pr pc (ix2 0 0)
      = ((P.Z : ℝ) : EReal) := by
  rw [zval_apply]
  unfold Params.Z
  rw [← sum_real]
  refine Finset.sum_congr rfl fun i _ => ?_
  rw [← sum_real]
  refine Finset.sum_congr rfl fun j _ => ?_
  have hA : 0 < P.a i + P.a j := add_pos (P.a_pos i) (P.a_pos j)
  have hC : 0 < P.c i + P.c j := add_pos (P.c_pos i) (P.c_pos j)
  rw [colL00_real hc, colL10_real hc, colL11_real hc, rowL00_real hr, rowL10_real hr, rowL11_real hr, hr.r3, hr.r4, hr.r5,
    show pc (ix2 i 3) = 0 from hc.r3 i, show pc (ix2 i 4) = 0 from hc.r4 i, show pc (ix2 i 5) = ((P.w i : ℝ) : EReal) from hc.r5 i]
  simp only [sub_zero, mul_zero, zero_mul, add_zero]
  rw [show (0 : EReal) = ((0 : ℝ) : EReal) from rfl, Ideal.exp2_coe, unit_real, ← EReal.coe_add, ← EReal.coe_add, ← EReal.coe_mul,
    ← EReal.coe_mul, rsqrt_real (mul_pos hA hC), ← EReal.coe_mul, ← EReal.coe_mul, ← EReal.coe_mul]
  congr 1
  rw [show Real.rpow 2 0 = 1 from Real.rpow_zero 2, one_mul]
  rfl

/-! ## The sum over the clusters -/

theorem term_apply (p0 p1 p2 : FVec Ideal S8x512 .f32) (q : Quad Ideal) (j : S8x512.Idx) :
    term p0 p1 p2 q j = q.2.2.2 * Ideal.exp2 (p0 j * q.1 + p1 j * q.2.1 + p2 j * q.2.2.1) := by
  pointwise [term, exp2_ideal]

theorem accum_apply (p0 p1 p2 : FVec Ideal S8x512 .f32) (j : S8x512.Idx) : ∀ (m : ℕ) (l : List (Quad Ideal)) (sa sb : FVec Ideal S8x512 .f32),
    l.length = 2 * m → accum p0 p1 p2 sa sb l j = sa j + sb j + (l.map fun q => term p0 p1 p2 q j).sum
  | 0, [], sa, sb, _ => by
    show sa j + sb j = _
    rw [List.map_nil, List.sum_nil, add_zero]
  | m + 1, a :: b :: r, sa, sb, hl => by
    show accum p0 p1 p2 (addf sa (term p0 p1 p2 a)) (addf sb (term p0 p1 p2 b)) r j = _
    rw [accum_apply p0 p1 p2 j m r _ _ (by simp only [List.length_cons] at hl; omega), List.map_cons, List.map_cons, List.sum_cons, List.sum_cons]
    show sa j + term p0 p1 p2 a j + (sb j + term p0 p1 p2 b j) + _ = _
    simp only [add_assoc, add_left_comm]
  | 0, _ :: _, _, _, hl => by simp at hl
  | m + 1, [], _, _, hl => by simp at hl
  | m + 1, [_], _, _, hl => by simp at hl; omega

theorem mixture_apply (p0 p1 p2 : FVec Ideal S8x512 .f32) (j : S8x512.Idx) (f : Fin 32 → Quad Ideal) :
    mixture p0 p1 p2 (clusters.map f) j = ∑ k, term p0 p1 p2 (f k) j := by
  rw [Fin.sum_univ_def, show List.finRange 32 = clusters by decide]
  have := accum_apply p0 p1 p2 j 15 ((clusters.drop 2).map f) (term p0 p1 p2 (f 0)) (term p0 p1 p2 (f 1)) rfl
  refine this.trans ?_
  simp only [clusters, List.drop, List.map_map, List.map_cons, List.map_nil, List.sum_cons, List.sum_nil, add_assoc]

/-- One cluster's density at a point with finite coordinates. -/
theorem term_real {P : Params} {T : Vec Ideal S4x32 .f32} (hT : TableIs P T) (X Y : FVec Ideal S8x512 .f32) (j : S8x512.Idx)
    (x y : ℝ) (hx : X j = (x : EReal)) (hy : Y j = (y : EReal)) (k : Fin 32) :
    term (mulf X X) (mulf X Y) (mulf Y Y) (quadOf T k) j = ((P.part k x y : ℝ) : EReal) := by
  rw [term_apply, hT k]
  show ((coef P k).2.2.2 : EReal) * Ideal.exp2 (X j * X j * ((coef P k).1 : EReal) + X j * Y j * ((coef P k).2.1 : EReal)
    + Y j * Y j * ((coef P k).2.2.1 : EReal)) = _
  rw [hx, hy]
  simp only [← EReal.coe_mul, ← EReal.coe_add]
  rw [Ideal.exp2_coe, ← EReal.coe_mul]
  congr 1
  have e : x * x * (coef P k).1 + x * y * (coef P k).2.1 + y * y * (coef P k).2.2.1 = -((2 * Real.log 2)⁻¹) * P.quad k x y := by
    simp only [coef, Params.quad]; ring
  rw [e, exp2_scaled]
  rfl

theorem mixture_real {P : Params} {T : Vec Ideal S4x32 .f32} (hT : TableIs P T) (X Y : FVec Ideal S8x512 .f32) (j : S8x512.Idx)
    (x y : ℝ) (hx : X j = (x : EReal)) (hy : Y j = (y : EReal)) :
    mixture (mulf X X) (mulf X Y) (mulf Y Y) (clusters.map (quadOf T)) j = ((P.mix x y : ℝ) : EReal) := by
  rw [mixture_apply]
  unfold Params.mix
  rw [← sum_real]
  exact Finset.sum_congr rfl fun k _ => term_real hT X Y j x y hx hy k

/-! ## The squares -/

theorem toInt_small {x : ℕ} (h : x < 2 ^ 31) : (BitVec.ofNat 32 x).toInt = (x : ℤ) := by
  rw [BitVec.toInt_ofNat']
  exact Int.bmod_eq_of_le (by omega) (by omega)

/-- A point's number, as the kernel counts it, is below a bound just when it is. -/
theorem slt_number (n t g r l : ℕ) (hn : n < 2 ^ 31) (hp : ((t * 128 + 8 * g) + r) * 512 + l < 2 ^ 31) :
    IntOp.cmpi .slt (IntOp.addi (Scalar.muli (Scalar.addi (Scalar.muli (BitVec.ofNat 32 t) 128#32) (BitVec.ofNat 32 (8 * g))) 512#32)
      (IntOp.addi (IntOp.muli (BitVec.ofNat 32 r) 512#32) (BitVec.ofNat 32 l))) (BitVec.ofNat 32 n)
      = if ((t * 128 + 8 * g) + r) * 512 + l < n then 1#1 else 0#1 := by
  have e : IntOp.addi (Scalar.muli (Scalar.addi (Scalar.muli (BitVec.ofNat 32 t) 128#32) (BitVec.ofNat 32 (8 * g))) 512#32)
      (IntOp.addi (IntOp.muli (BitVec.ofNat 32 r) 512#32) (BitVec.ofNat 32 l)) = BitVec.ofNat 32 (((t * 128 + 8 * g) + r) * 512 + l) := by
    show (BitVec.ofNat 32 t * BitVec.ofNat 32 128 + BitVec.ofNat 32 (8 * g)) * BitVec.ofNat 32 512
      + (BitVec.ofNat 32 r * BitVec.ofNat 32 512 + BitVec.ofNat 32 l) = _
    simp only [← BitVec.ofNat_mul, ← BitVec.ofNat_add]
    congr 1; ring
  rw [e]
  show BitVec.ofBool ((BitVec.ofNat 32 _).slt (BitVec.ofNat 32 n)) = _
  have h1 : (BitVec.ofNat 32 (((t * 128 + 8 * g) + r) * 512 + l)).toInt = ((((t * 128 + 8 * g) + r) * 512 + l : ℕ) : ℤ) :=
    toInt_small hp
  have h2 : (BitVec.ofNat 32 n).toInt = (n : ℤ) := toInt_small hn
  rw [BitVec.slt, h1, h2]
  by_cases h : ((t * 128 + 8 * g) + r) * 512 + l < n
  · rw [if_pos h, decide_eq_true (by exact_mod_cast h)]; rfl
  · rw [if_neg h, decide_eq_false (by exact_mod_cast h)]; rfl

theorem square_apply (n arg0 : BitVec 32) (ts : List (Quad Ideal)) (g : Fin 16) (x0 x1 : Vec Ideal S8x512 .f32) (r : Fin 8) (l : Fin 512) :
    square n arg0 ts g x0 x1 (ix2 r l) = Scalar.select
      (IntOp.cmpi .slt (IntOp.addi (Scalar.muli (Scalar.addi (Scalar.muli arg0 128#32) (BitVec.ofNat 32 (8 * g.val))) 512#32)
        (IntOp.addi (IntOp.muli (BitVec.ofNat 32 r.val) 512#32) (BitVec.ofNat 32 l.val))) n)
      (mixture (mulf x0 x0) (mulf x0 x1) (mulf x1 x1) ts (ix2 r l) * mixture (mulf x0 x0) (mulf x0 x1) (mulf x1 x1) ts (ix2 r l)) 0 := by
  pointwise [square, rel, zero]
  unfold Scalar.select
  split <;> rfl

theorem total_apply (acc : Vec Ideal S8x512 .f32) : total acc (ix2 0 0) = ∑ r : Fin 8, ∑ l : Fin 512, acc (ix2 r l) := by
  pointwise [total]

/-- The squared mixture at a call's `p`-th point, of `n` in all. -/
def sq (P : Params) (n : ℕ) (xs ys : ℕ → ℝ) (p : ℕ) : ℝ := if p < n then P.mix (xs p) (ys p) * P.mix (xs p) (ys p) else 0

/-- A block holds its stretch of a sequence. -/
def BlockIs (xs : ℕ → ℝ) (t : ℕ) (x : Vec Ideal S128x512 .f32) : Prop :=
  ∀ (a : Fin 128) (l : Fin 512), x (ix2 a l) = ((xs ((t * 128 + a.val) * 512 + l.val) : ℝ) : EReal)

theorem rows_apply (g : Fin 16) (x : Vec Ideal S128x512 .f32) (r : Fin 8) (l : Fin 512) :
    rows g x (ix2 r l) = x (ix2 ⟨8 * g.val + r.val, by omega⟩ l) := by
  unfold rows
  congr 1
  funext a
  fin_cases a
  · exact Fin.ext (show 8 * g.val + 1 * r.val = _ by simp)
  · exact Fin.ext (show 0 + 1 * l.val = _ by simp)

section Sums

variable {P : Params} {T : Vec Ideal S4x32 .f32} (hT : TableIs P T) {n : ℕ} (hn : n < 2 ^ 31) {xs ys : ℕ → ℝ}
include hT hn

theorem square_real {t : ℕ} (ht : t < 6) {x0 x1 : Vec Ideal S128x512 .f32} (h0 : BlockIs xs t x0) (h1 : BlockIs ys t x1)
    (g : Fin 16) (r : Fin 8) (l : Fin 512) :
    square (BitVec.ofNat 32 n) (BitVec.ofNat 32 t) (clusters.map (quadOf T)) g (rows g x0) (rows g x1) (ix2 r l)
      = ((sq P n xs ys (((t * 128 + 8 * g.val) + r.val) * 512 + l.val) : ℝ) : EReal) := by
  rw [square_apply, slt_number n t g.val r.val l.val hn (by omega),
    mixture_real hT (rows g x0) (rows g x1) (ix2 r l) (xs (((t * 128 + 8 * g.val) + r.val) * 512 + l.val))
      (ys (((t * 128 + 8 * g.val) + r.val) * 512 + l.val))
      (by rw [rows_apply, h0]; simp only [add_assoc]) (by rw [rows_apply, h1]; simp only [add_assoc])]
  unfold sq
  split
  · exact (EReal.coe_mul _ _).symm
  · rfl

omit hT hn in
theorem sumGroups_apply (m arg0 : BitVec 32) (ts : List (Quad Ideal)) (x0 x1 : Vec Ideal S128x512 .f32) (j : S8x512.Idx) :
    ∀ (gs : List (Fin 16)) (acc : FVec Ideal S8x512 .f32),
      sumGroups m arg0 ts x0 x1 acc gs j = acc j + (gs.map fun g => square m arg0 ts g (rows g x0) (rows g x1) j).sum
  | [], acc => by
    show acc j = _
    rw [List.map_nil, List.sum_nil, add_zero]
  | g :: gs, acc => by
    show sumGroups m arg0 ts x0 x1 (addf acc (square m arg0 ts g (rows g x0) (rows g x1))) gs j = _
    rw [sumGroups_apply m arg0 ts x0 x1 j gs, List.map_cons, List.sum_cons]
    show acc j + square m arg0 ts g (rows g x0) (rows g x1) j + _ = _
    rw [add_assoc]

theorem contrib_real {t : ℕ} (ht : t < 6) {x0 x1 : Vec Ideal S128x512 .f32} (h0 : BlockIs xs t x0) (h1 : BlockIs ys t x1)
    (r : Fin 8) (l : Fin 512) :
    contrib (BitVec.ofNat 32 n) (BitVec.ofNat 32 t) T x0 x1 (ix2 r l)
      = ((∑ g : Fin 16, sq P n xs ys (((t * 128 + 8 * g.val) + r.val) * 512 + l.val) : ℝ) : EReal) := by
  rw [← sum_real]
  unfold contrib
  rw [sumGroups_apply]
  simp only [square_real hT hn ht h0 h1]
  rw [Fin.sum_univ_def, show List.finRange 16 = 0 :: laterGroups by decide, List.map_cons, List.sum_cons]

/-- The accumulator after the `k`-th point. -/
theorem accAt_real {X0 X1 : ℕ → Vec Ideal S128x512 .f32} (r : Fin 8) (l : Fin 512) : ∀ (k : ℕ), k < 6 →
    (∀ t, t ≤ k → BlockIs xs t (X0 t) ∧ BlockIs ys t (X1 t)) →
    accAt (BitVec.ofNat 32 n) T X0 X1 k (ix2 r l)
      = ((∑ t ∈ Finset.range (k + 1), ∑ g : Fin 16, sq P n xs ys (((t * 128 + 8 * g.val) + r.val) * 512 + l.val) : ℝ) : EReal)
  | 0, hk, h => by
    have e : accAt (BitVec.ofNat 32 n) T X0 X1 0 (ix2 r l) = contrib (BitVec.ofNat 32 n) (BitVec.ofNat 32 0) T (X0 0) (X1 0) (ix2 r l) := by
      unfold accAt firstAcc
      pointwise []
    rw [e, contrib_real hT hn hk (h 0 le_rfl).1 (h 0 le_rfl).2, Finset.sum_range_one]
  | k + 1, hk, h => by
    have e : accAt (BitVec.ofNat 32 n) T X0 X1 (k + 1) (ix2 r l) = accAt (BitVec.ofNat 32 n) T X0 X1 k (ix2 r l)
        + contrib (BitVec.ofNat 32 n) (BitVec.ofNat 32 (k + 1)) T (X0 (k + 1)) (X1 (k + 1)) (ix2 r l) := by
      conv_lhs => unfold accAt nextAcc
      pointwise []
    rw [e, contrib_real hT hn hk (h _ le_rfl).1 (h _ le_rfl).2, accAt_real r l k (by omega) (fun t ht => h t (by omega)),
      ← EReal.coe_add, Finset.sum_range_succ _ (k + 1)]

omit hT hn in
theorem sum_range_mul (f : ℕ → ℝ) (b : ℕ) : ∀ a, ∑ p ∈ Finset.range (a * b), f p = ∑ i ∈ Finset.range a, ∑ j ∈ Finset.range b, f (i * b + j)
  | 0 => by simp
  | a + 1 => by rw [Nat.succ_mul, Finset.sum_range_add, sum_range_mul f b a, Finset.sum_range_succ]

/-- The sum over a call's points. -/
theorem total_real {X0 X1 : ℕ → Vec Ideal S128x512 .f32} (k : ℕ) (hk : k < 6)
    (h : ∀ t, t ≤ k → BlockIs xs t (X0 t) ∧ BlockIs ys t (X1 t)) (hN : n ≤ (k + 1) * 65536) :
    total (accAt (BitVec.ofNat 32 n) T X0 X1 k) (ix2 0 0)
      = ((∑ p ∈ Finset.range n, P.mix (xs p) (ys p) * P.mix (xs p) (ys p) : ℝ) : EReal) := by
  have e : ∑ p ∈ Finset.range n, P.mix (xs p) (ys p) * P.mix (xs p) (ys p) = ∑ p ∈ Finset.range ((k + 1) * 65536), sq P n xs ys p := by
    obtain ⟨d, hd⟩ := Nat.exists_eq_add_of_le hN
    rw [hd, Finset.sum_range_add, Finset.sum_eq_zero (s := Finset.range d) (fun p _ => by unfold sq; rw [if_neg (by omega)]), add_zero]
    exact Finset.sum_congr rfl fun p hp => by unfold sq; rw [if_pos (Finset.mem_range.mp hp)]
  rw [e, total_apply]
  simp only [accAt_real hT hn _ _ k hk h, sum_real]
  congr 1
  rw [sum_range_mul]
  have f : ∀ t, ∑ j ∈ Finset.range 65536, sq P n xs ys (t * 65536 + j)
      = ∑ r : Fin 8, ∑ l : Fin 512, ∑ g : Fin 16, sq P n xs ys (((t * 128 + 8 * g.val) + r.val) * 512 + l.val) := fun t => by
    rw [show 65536 = 16 * 4096 from rfl, sum_range_mul (fun j => sq P n xs ys (t * (16 * 4096) + j)) 4096 16,
      Finset.sum_range]
    have g1 : ∀ g : Fin 16, ∑ j ∈ Finset.range 4096, sq P n xs ys (t * (16 * 4096) + (g.val * 4096 + j))
        = ∑ r : Fin 8, ∑ l : Fin 512, sq P n xs ys (((t * 128 + 8 * g.val) + r.val) * 512 + l.val) := fun g => by
      rw [show 4096 = 8 * 512 from rfl, sum_range_mul (fun j => sq P n xs ys (t * (16 * (8 * 512)) + (g.val * (8 * 512) + j))) 512 8,
        Finset.sum_range]
      refine Finset.sum_congr rfl fun r _ => ?_
      rw [Finset.sum_range]
      exact Finset.sum_congr rfl fun l _ => congrArg _ (by ring)
    rw [Finset.sum_congr (g := fun g : Fin 16 => ∑ r : Fin 8, ∑ l : Fin 512,
      sq P n xs ys (((t * 128 + 8 * g.val) + r.val) * 512 + l.val)) rfl fun g _ => g1 g, Finset.sum_comm]
    exact Finset.sum_congr rfl fun r _ => Finset.sum_comm
  rw [Finset.sum_congr (g := fun t => ∑ r : Fin 8, ∑ l : Fin 512, ∑ g : Fin 16,
    sq P n xs ys (((t * 128 + 8 * g.val) + r.val) * 512 + l.val)) rfl fun t _ => f t]
  rw [Finset.sum_comm (s := Finset.range (k + 1))]
  refine Finset.sum_congr rfl fun r _ => ?_
  rw [Finset.sum_comm (s := Finset.range (k + 1))]

end Sums

end Cert.KernelIdeal.Own

end
-- ==== Proof.Value.Host.lean ====
/-
  What the host program passes to each call, and what it makes of their results.
-/
module

public import proofs.«01_k».proof.Proof.KernelIdeal.Run
public import proofs.«01_k».proof.Proof.Value.Block
public import Idealize.ShloMosaic.Lib.KernelVsHost

@[expose] public section

set_option maxRecDepth 16384

noncomputable section

namespace Cert.KernelIdeal.Own

open Idealize.ShloMosaic Idealize.SL.Sem Idealize.ShloMosaic.StableHlo
open Cert.KernelIdeal Cert.KernelIdeal.Gen Cert.Proof

variable (W : Valuation τ sig (Elt Ideal))

/-- The arguments' contents. -/
def argX : Vec Ideal S1000000x2 .f32 := W (Proc.devRef .tc main_arg0)
def argM : Vec Ideal S32x2 .f32 := W (Proc.devRef .tc main_arg1)
def argC : Vec Ideal S32x2x2 .f32 := W (Proc.devRef .tc main_arg2)
def argW : Vec Ideal S32 .f32 := W (Proc.devRef .tc main_arg3)

/-- The parameter rows, of what the arguments hold. -/
def rowsOf : Vec Ideal S6x32 .f32 := after hostOps0 W (Proc.devRef .tc main_v16)
def colsOf : Vec Ideal S32x6 .f32 := after hostOps0 W (Proc.devRef .tc main_v17)

/-- What the rows hold: the triangles' three entries, the means' two coordinates, the weights. -/
theorem rowsOf_apply (r : Fin 6) (k : Fin 32) : rowsOf W (ix2 r k)
    = ![argC W (ix3 k 0 0), argC W (ix3 k 1 0), argC W (ix3 k 1 1), argM W (ix2 k 0), argM W (ix2 k 1), argW W (ix1 k)] r := by
  unfold rowsOf argC argM argW
  after_results_simp
  fin_cases r <;>
  · pointwise []
    after_results_simp
    pointwise []

theorem transpose_at (M : Vec Ideal S6x32 .f32) (k : Fin 32) (r : Fin 6) :
    (transpose S32x6 [1, 0] M transposes_S6x32_S32x6_1_0 : Vec Ideal S32x6 .f32) (ix2 k r) = M (ix2 r k) := by
  pointwise []

theorem colsOf_apply (k : Fin 32) (r : Fin 6) : colsOf W (ix2 k r) = rowsOf W (ix2 r k) := by
  unfold colsOf rowsOf
  after_results_simp
  exact transpose_at _ k r

/-- What the parameters and the means are to the rows. -/
theorem rowsOf_are {P : Params} {xs ys : ℕ → ℝ} (hI : Inputs P xs ys (fun n i => argX W (ix2 n i)) (fun k i => argM W (ix2 k i))
    (fun k i j => argC W (ix3 k i j)) (fun k => argW W (ix1 k))) : RowsAre P (rowsOf W) where
  r0 k := (rowsOf_apply W 0 k).trans (hI.c00 k)
  r1 k := (rowsOf_apply W 1 k).trans (hI.c10 k)
  r2 k := (rowsOf_apply W 2 k).trans (hI.c11 k)
  r3 k := (rowsOf_apply W 3 k).trans (hI.m k 0)
  r4 k := (rowsOf_apply W 4 k).trans (hI.m k 1)
  r5 k := (rowsOf_apply W 5 k).trans (hI.w k)

/-- The columns are the rows transposed. -/
theorem colsOf_are {P : Params} (h : RowsAre P (rowsOf W)) : ColsAre P (colsOf W) where
  r0 k := (colsOf_apply W k 0).trans (h.r0 k)
  r1 k := (colsOf_apply W k 1).trans (h.r1 k)
  r2 k := (colsOf_apply W k 2).trans (h.r2 k)
  r3 k := (colsOf_apply W k 3).trans (h.r3 k)
  r4 k := (colsOf_apply W k 4).trans (h.r4 k)
  r5 k := (colsOf_apply W k 5).trans (h.r5 k)

/-! ## The points' coordinates -/

/-- The buffers after the operations before each call. -/
def stretch0 : Valuation τ sig (Elt Ideal) := after hostOps0_2 (after hostOps0_1 (after hostOps0 W))
def stretch1 : Valuation τ sig (Elt Ideal) := after hostOps1_2 (after hostOps1_1 (after hostOps1 W))
def stretch2 : Valuation τ sig (Elt Ideal) := after hostOps2_2 (after hostOps2_1 (after hostOps2 W))

/-- The padding value: the integer zero, converted. -/
theorem sitofp_zero : (FloatOps.sitofp FTy.f32 0#32 : Ideal FTy.f32) = (0 : EReal) := by
  show (((0#32 : BitVec 32).toInt : ℝ) : EReal) = 0
  simp

/-- Padding by nothing changes nothing. -/
theorem pad_nothing {α : Type} (x : S393216x2.Idx → α) (v : S_.Idx → α) (j : S393216x2.Idx) :
    pad S393216x2 ![0, 0] ![0, 0] ![0, 0] x v pads_S393216x2_S393216x2_000_000 h_S_ j = x j :=
  pad_apply_of_inside _ _ _ x v _ _ j j fun a => by fin_cases a <;> simp

/-- Padding below the last row: the rows, then the padding value. -/
theorem pad_rows {α : Type} (x : S213568x2.Idx → α) (v : S_.Idx → α) (p : Fin 262144) (i : Fin 2) :
    pad S262144x2 ![0, 0] ![48576, 0] ![0, 0] x v pads_S213568x2_S262144x2_0485760_000 h_S_ (ix2 p i)
      = if h : p.val < 213568 then x (ix2 ⟨p.val, h⟩ i) else v (Shape.Idx.first h_S_) := by
  split
  · exact pad_apply_of_inside _ _ _ x v _ _ _ _ fun a => by fin_cases a <;> simp
  · rename_i h
    refine pad_apply_of_not_inside _ _ _ x v _ _ _ 0 fun h' => h ?_
    simpa using h'.2.2

/-- The arrays of coordinates given to the calls, and the points that they hold. -/
def pts0_x : Vec Ideal S768x512 .f32 := stretch0 W (Proc.devRef .tc main_v22)
theorem pts0_x_apply (a : Fin 768) (l : Fin 512) : pts0_x W (ix2 a l)
    = argX W (ix2 ⟨0 + (a.val * 512 + l.val), by omega⟩ 0) := by
  unfold pts0_x stretch0 argX
  after_results_simp
  pointwise []
  simp only [TRef.toBuf, TRef.ofBuf, cast_cast, cast_eq]
  rw [pad_nothing]
  pointwise []
def pts0_y : Vec Ideal S768x512 .f32 := stretch0 W (Proc.devRef .tc main_v24)
theorem pts0_y_apply (a : Fin 768) (l : Fin 512) : pts0_y W (ix2 a l)
    = argX W (ix2 ⟨0 + (a.val * 512 + l.val), by omega⟩ 1) := by
  unfold pts0_y stretch0 argX
  after_results_simp
  pointwise []
  simp only [TRef.toBuf, TRef.ofBuf, cast_cast, cast_eq]
  rw [pad_nothing]
  pointwise []
def pts1_x : Vec Ideal S768x512 .f32 := stretch1 W (Proc.devRef .tc main_v32)
theorem pts1_x_apply (a : Fin 768) (l : Fin 512) : pts1_x W (ix2 a l)
    = argX W (ix2 ⟨393216 + (a.val * 512 + l.val), by omega⟩ 0) := by
  unfold pts1_x stretch1 argX
  after_results_simp
  pointwise []
  simp only [TRef.toBuf, TRef.ofBuf, cast_cast, cast_eq]
  rw [pad_nothing]
  pointwise []
def pts1_y : Vec Ideal S768x512 .f32 := stretch1 W (Proc.devRef .tc main_v34)
theorem pts1_y_apply (a : Fin 768) (l : Fin 512) : pts1_y W (ix2 a l)
    = argX W (ix2 ⟨393216 + (a.val * 512 + l.val), by omega⟩ 1) := by
  unfold pts1_y stretch1 argX
  after_results_simp
  pointwise []
  simp only [TRef.toBuf, TRef.ofBuf, cast_cast, cast_eq]
  rw [pad_nothing]
  pointwise []
def pts2_x : Vec Ideal S512x512 .f32 := stretch2 W (Proc.devRef .tc main_v43)
theorem pts2_x_apply (a : Fin 512) (l : Fin 512) : pts2_x W (ix2 a l)
    = if h : a.val * 512 + l.val < 213568 then argX W (ix2 ⟨786432 + (a.val * 512 + l.val), by omega⟩ 0) else 0 := by
  unfold pts2_x stretch2 argX
  after_results_simp
  pointwise []
  simp only [TRef.toBuf, TRef.ofBuf, cast_cast, cast_eq]
  rw [pad_rows]
  pointwise []
  rw [show (FloatOps.sitofp FTy.f32 0#32 : Ideal FTy.f32) = (0 : EReal) from sitofp_zero]
def pts2_y : Vec Ideal S512x512 .f32 := stretch2 W (Proc.devRef .tc main_v45)
theorem pts2_y_apply (a : Fin 512) (l : Fin 512) : pts2_y W (ix2 a l)
    = if h : a.val * 512 + l.val < 213568 then argX W (ix2 ⟨786432 + (a.val * 512 + l.val), by omega⟩ 1) else 0 := by
  unfold pts2_y stretch2 argX
  after_results_simp
  pointwise []
  simp only [TRef.toBuf, TRef.ofBuf, cast_cast, cast_eq]
  rw [pad_rows]
  pointwise []
  rw [show (FloatOps.sitofp FTy.f32 0#32 : Ideal FTy.f32) = (0 : EReal) from sitofp_zero]

end Cert.KernelIdeal.Own

end
-- ==== Proof.Value.Calls.lean ====
/-
  What each call's blocks hold, and what the host program makes of the calls' results.
-/
module

public import proofs.«01_k».proof.Proof.Value.Host
public import Idealize.ShloMosaic.Lib.Pipeline.ValueKit

@[expose] public section

set_option maxRecDepth 16384

noncomputable section

namespace Cert.KernelIdeal.Own

open Idealize.ShloMosaic Idealize.SL.Sem Idealize.ShloMosaic.StableHlo
open Idealize.ShloMosaic.Pipeline (Dat Cfg Window arrRef afterRegion)
open Cert.KernelIdeal Cert.KernelIdeal.Gen Cert.Proof

/-- The sum over a stretch of points of the squared density of the mixture. -/
def sumTo (P : Params) (xs ys : ℕ → ℝ) (n : ℕ) : ℝ := ∑ p ∈ Finset.range n, P.mix (xs p) (ys p) * P.mix (xs p) (ys p)

section Blocks

variable (W : Valuation τ sig (Elt Ideal))

/-- An array of points holds a sequence, row by row. -/
def PointsAre {r : ℕ} (xs : ℕ → ℝ) (x : Vec Ideal (⟨2, ![r, 512]⟩ : Shape) .f32) : Prop :=
  ∀ (a : Fin r) (l : Fin 512), x (ix2 a l) = ((xs (a.val * 512 + l.val) : ℝ) : EReal)

/-- The blocks' places, and what they hold. -/
theorem idx0 : ∀ t : Fin cfg0.N, win0_0.index t = ![t.val, 0] ∧ win0_1.index t = ![t.val, 0]
    ∧ win0_2.index t = ![0, 0] ∧ win0_3.index t = ![0, 0] :=
  (by decide +kernel : ∀ t : Fin grid0.N, _)
theorem block0_0 {xs : ℕ → ℝ} (h : PointsAre (r := 768) xs (W (Proc.devRef .tc main_v22))) (k : ℕ) (hk : k < 6) :
    BlockIs xs k (iblk0 W 0 (pt0 k)) := fun a l => by
  have e : iblk0 W 0 (pt0 k) (ix2 a l) = W (Proc.devRef .tc main_v22) (ix2 (⟨k * 128 + a.val, by omega⟩ : Fin 768) l) := by
    have hv : (pt0 k).val = k := Nat.mod_eq_of_lt hk
    blk_ext! [iblk0, idx0 (pt0 k), hv]
  exact e.trans (h ⟨k * 128 + a.val, by omega⟩ l)
theorem block0_1 {xs : ℕ → ℝ} (h : PointsAre (r := 768) xs (W (Proc.devRef .tc main_v24))) (k : ℕ) (hk : k < 6) :
    BlockIs xs k (iblk0 W 1 (pt0 k)) := fun a l => by
  have e : iblk0 W 1 (pt0 k) (ix2 a l) = W (Proc.devRef .tc main_v24) (ix2 (⟨k * 128 + a.val, by omega⟩ : Fin 768) l) := by
    have hv : (pt0 k).val = k := Nat.mod_eq_of_lt hk
    blk_ext! [iblk0, idx0 (pt0 k), hv]
  exact e.trans (h ⟨k * 128 + a.val, by omega⟩ l)
theorem whole0_2 (t : Fin cfg0.N) : iblk0 W 2 t = W (Proc.devRef .tc main_v16) := by
  blk_ext! [iblk0, idx0 t]
theorem whole0_3 (t : Fin cfg0.N) : iblk0 W 3 t = W (Proc.devRef .tc main_v17) := by
  blk_ext! [iblk0, idx0 t]

/-- What the call leaves in its first output. -/
theorem out0_real {P : Params} {xs ys : ℕ → ℝ} (hx : PointsAre (r := 768) xs (W (Proc.devRef .tc main_v22)))
    (hy : PointsAre (r := 768) ys (W (Proc.devRef .tc main_v24))) (hr : RowsAre P (W (Proc.devRef .tc main_v16))) :
    out0 W (ix2 0 0) = ((sumTo P xs ys 393216 : ℝ) : EReal) :=
  total_real (T := tbl0 W) (table_real (by rw [whole0_2]; exact hr)) (n := 393216) (by norm_num) 5 (by norm_num)
    (fun t ht => ⟨block0_0 W hx t (by omega), block0_1 W hy t (by omega)⟩) (by norm_num)

/-- The blocks' places, and what they hold. -/
theorem idx1 : ∀ t : Fin cfg1.N, win1_0.index t = ![t.val, 0] ∧ win1_1.index t = ![t.val, 0]
    ∧ win1_2.index t = ![0, 0] ∧ win1_3.index t = ![0, 0] :=
  (by decide +kernel : ∀ t : Fin grid1.N, _)
theorem block1_0 {xs : ℕ → ℝ} (h : PointsAre (r := 768) xs (W (Proc.devRef .tc main_v32))) (k : ℕ) (hk : k < 6) :
    BlockIs xs k (iblk1 W 0 (pt1 k)) := fun a l => by
  have e : iblk1 W 0 (pt1 k) (ix2 a l) = W (Proc.devRef .tc main_v32) (ix2 (⟨k * 128 + a.val, by omega⟩ : Fin 768) l) := by
    have hv : (pt1 k).val = k := Nat.mod_eq_of_lt hk
    blk_ext! [iblk1, idx1 (pt1 k), hv]
  exact e.trans (h ⟨k * 128 + a.val, by omega⟩ l)
theorem block1_1 {xs : ℕ → ℝ} (h : PointsAre (r := 768) xs (W (Proc.devRef .tc main_v34))) (k : ℕ) (hk : k < 6) :
    BlockIs xs k (iblk1 W 1 (pt1 k)) := fun a l => by
  have e : iblk1 W 1 (pt1 k) (ix2 a l) = W (Proc.devRef .tc main_v34) (ix2 (⟨k * 128 + a.val, by omega⟩ : Fin 768) l) := by
    have hv : (pt1 k).val = k := Nat.mod_eq_of_lt hk
    blk_ext! [iblk1, idx1 (pt1 k), hv]
  exact e.trans (h ⟨k * 128 + a.val, by omega⟩ l)
theorem whole1_2 (t : Fin cfg1.N) : iblk1 W 2 t = W (Proc.devRef .tc main_v16) := by
  blk_ext! [iblk1, idx1 t]
theorem whole1_3 (t : Fin cfg1.N) : iblk1 W 3 t = W (Proc.devRef .tc main_v17) := by
  blk_ext! [iblk1, idx1 t]

/-- What the call leaves in its first output. -/
theorem out1_real {P : Params} {xs ys : ℕ → ℝ} (hx : PointsAre (r := 768) xs (W (Proc.devRef .tc main_v32)))
    (hy : PointsAre (r := 768) ys (W (Proc.devRef .tc main_v34))) (hr : RowsAre P (W (Proc.devRef .tc main_v16))) :
    out1 W (ix2 0 0) = ((sumTo P xs ys 393216 : ℝ) : EReal) :=
  total_real (T := tbl1 W) (table_real (by rw [whole1_2]; exact hr)) (n := 393216) (by norm_num) 5 (by norm_num)
    (fun t ht => ⟨block1_0 W hx t (by omega), block1_1 W hy t (by omega)⟩) (by norm_num)

/-- The blocks' places, and what they hold. -/
theorem idx2 : ∀ t : Fin cfg2.N, win2_0.index t = ![t.val, 0] ∧ win2_1.index t = ![t.val, 0]
    ∧ win2_2.index t = ![0, 0] ∧ win2_3.index t = ![0, 0] :=
  (by decide +kernel : ∀ t : Fin grid2.N, _)
theorem block2_0 {xs : ℕ → ℝ} (h : PointsAre (r := 512) xs (W (Proc.devRef .tc main_v43))) (k : ℕ) (hk : k < 4) :
    BlockIs xs k (iblk2 W 0 (pt2 k)) := fun a l => by
  have e : iblk2 W 0 (pt2 k) (ix2 a l) = W (Proc.devRef .tc main_v43) (ix2 (⟨k * 128 + a.val, by omega⟩ : Fin 512) l) := by
    have hv : (pt2 k).val = k := Nat.mod_eq_of_lt hk
    blk_ext! [iblk2, idx2 (pt2 k), hv]
  exact e.trans (h ⟨k * 128 + a.val, by omega⟩ l)
theorem block2_1 {xs : ℕ → ℝ} (h : PointsAre (r := 512) xs (W (Proc.devRef .tc main_v45))) (k : ℕ) (hk : k < 4) :
    BlockIs xs k (iblk2 W 1 (pt2 k)) := fun a l => by
  have e : iblk2 W 1 (pt2 k) (ix2 a l) = W (Proc.devRef .tc main_v45) (ix2 (⟨k * 128 + a.val, by omega⟩ : Fin 512) l) := by
    have hv : (pt2 k).val = k := Nat.mod_eq_of_lt hk
    blk_ext! [iblk2, idx2 (pt2 k), hv]
  exact e.trans (h ⟨k * 128 + a.val, by omega⟩ l)
theorem whole2_2 (t : Fin cfg2.N) : iblk2 W 2 t = W (Proc.devRef .tc main_v16) := by
  blk_ext! [iblk2, idx2 t]
theorem whole2_3 (t : Fin cfg2.N) : iblk2 W 3 t = W (Proc.devRef .tc main_v17) := by
  blk_ext! [iblk2, idx2 t]

/-- What the call leaves in its first output. -/
theorem out2_real {P : Params} {xs ys : ℕ → ℝ} (hx : PointsAre (r := 512) xs (W (Proc.devRef .tc main_v43)))
    (hy : PointsAre (r := 512) ys (W (Proc.devRef .tc main_v45))) (hr : RowsAre P (W (Proc.devRef .tc main_v16))) :
    out2 W (ix2 0 0) = ((sumTo P xs ys 213568 : ℝ) : EReal) :=
  total_real (T := tbl2 W) (table_real (by rw [whole2_2]; exact hr)) (n := 213568) (by norm_num) 3 (by norm_num)
    (fun t ht => ⟨block2_0 W hx t (by omega), block2_1 W hy t (by omega)⟩) (by norm_num)

/-- What the first call leaves in its second output. -/
theorem norm0_real {P : Params} (hr : RowsAre P (W (Proc.devRef .tc main_v16))) (hc : ColsAre P (W (Proc.devRef .tc main_v17))) :
    norm0 W (ix2 0 0) = ((P.Z : ℝ) : EReal) :=
  zval_real (by rw [whole0_2]; exact hr) (by rw [whole0_3]; exact hc)

/-! ## The host program around the calls -/

/-- The calls' results as the host program adds them up, and the final value. -/
theorem v26_apply : (after hostOps1 W (Proc.devRef .tc main_v26) : Vec Ideal S_ .f32) ix0
    = (W (Proc.devRef .tc main_v25_0) : Vec Ideal S1x1 .f32) (ix2 0 0) := by
  after_results_simp
  pointwise []
theorem v27_apply : (after hostOps1 W (Proc.devRef .tc main_v27) : Vec Ideal S_ .f32) ix0
    = (W (Proc.devRef .tc main_v25_1) : Vec Ideal S1x1 .f32) (ix2 0 0) := by
  after_results_simp
  pointwise []
theorem v38_apply {a b : EReal} (ha : (W (Proc.devRef .tc main_v26) : Vec Ideal S_ .f32) ix0 = a)
    (hb : (W (Proc.devRef .tc main_v35_0) : Vec Ideal S1x1 .f32) (ix2 0 0) = b) :
    (after hostOps2 W (Proc.devRef .tc main_v38) : Vec Ideal S_ .f32) ix0 = a + b := by
  subst ha hb
  after_results_simp
  pointwise []
theorem v54_apply {a b z : EReal} (ha : (W (Proc.devRef .tc main_v38) : Vec Ideal S_ .f32) ix0 = a)
    (hb : (W (Proc.devRef .tc main_v46_0) : Vec Ideal S1x1 .f32) (ix2 0 0) = b)
    (hz : (W (Proc.devRef .tc main_v27) : Vec Ideal S_ .f32) ix0 = z) :
    (after hostOps3 W (Proc.devRef .tc main_v54) : Vec Ideal S_ .f32) ix0
      = Ideal.div (-(Ideal.log (a + b) - Ideal.log z)) (Ideal.ofBits .f32 0x49742400#32) := by
  subst ha hb hz
  after_results_simp
  pointwise []

end Blocks

/-! ## The buffers through the run -/

section Run

variable (m : (ℓ : Loc nD τ sig) → Buf (Elt Ideal) ℓ) (c : Dev nD)

theorem V4_v25_0 : ((V4 m (left m) c) (Proc.devRef .tc main_v25_0) : Vec Ideal S1x1 .f32) = out0 (V3 m c) := by
  rw [after0]
  refine (Pipeline.afterRegion_arr (dat0 (V3 m c) c) (V3 m c) winFacts0.arr_inj 4).trans ?_
  refine (dat0 (V3 m c) c).arrAt_eq_of_after_last 4 (pt0 5) (by decide +kernel) _ fun j => ?_
  blk_simp
  rw [after0_4]
theorem V4_v25_1 : ((V4 m (left m) c) (Proc.devRef .tc main_v25_1) : Vec Ideal S1x1 .f32) = norm0 (V3 m c) := by
  rw [after0]
  refine (Pipeline.afterRegion_arr (dat0 (V3 m c) c) (V3 m c) winFacts0.arr_inj 5).trans ?_
  refine (dat0 (V3 m c) c).arrAt_eq_of_after_last 5 (pt0 5) (by decide +kernel) _ fun j => ?_
  blk_simp
  rw [after0_5]
theorem V8_v35_0 : ((V8 m (left m) c) (Proc.devRef .tc main_v35_0) : Vec Ideal S1x1 .f32) = out1 (V7 m (left m) c) := by
  rw [after1]
  refine (Pipeline.afterRegion_arr (dat1 (V7 m (left m) c) c) (V7 m (left m) c) winFacts1.arr_inj 4).trans ?_
  refine (dat1 (V7 m (left m) c) c).arrAt_eq_of_after_last 4 (pt1 5) (by decide +kernel) _ fun j => ?_
  blk_simp
  rw [after1_4]
theorem V12_v46_0 : ((V12 m (left m) c) (Proc.devRef .tc main_v46_0) : Vec Ideal S1x1 .f32) = out2 (V11 m (left m) c) := by
  rw [after2]
  refine (Pipeline.afterRegion_arr (dat2 (V11 m (left m) c) c) (V11 m (left m) c) winFacts2.arr_inj 4).trans ?_
  refine (dat2 (V11 m (left m) c) c).arrAt_eq_of_after_last 4 (pt2 3) (by decide +kernel) _ fun j => ?_
  blk_simp
  rw [after2_4]

/-! Buffers that nothing in between writes keep their contents. -/

theorem V3_v16 : (V3 m c) (Proc.devRef .tc main_v16) = (V1 m c) (Proc.devRef .tc main_v16) :=
  (V3_of m c main_v16 (by decide)).trans (V2_of m c main_v16 (by decide))
theorem V3_v17 : (V3 m c) (Proc.devRef .tc main_v17) = (V1 m c) (Proc.devRef .tc main_v17) :=
  (V3_of m c main_v17 (by decide)).trans (V2_of m c main_v17 (by decide))
theorem V7_v16 : (V7 m (left m) c) (Proc.devRef .tc main_v16) = (V3 m c) (Proc.devRef .tc main_v16) :=
  (((V7_of m (left m) c main_v16 (by decide)).trans (V6_of m (left m) c main_v16 (by decide))).trans (V5_of m (left m) c main_v16 (by decide))).trans (V4_of m (left m) c main_v16 (by decide))
theorem V11_v16 : (V11 m (left m) c) (Proc.devRef .tc main_v16) = (V7 m (left m) c) (Proc.devRef .tc main_v16) :=
  (((V11_of m (left m) c main_v16 (by decide)).trans (V10_of m (left m) c main_v16 (by decide))).trans (V9_of m (left m) c main_v16 (by decide))).trans (V8_of m (left m) c main_v16 (by decide))
theorem V4_arg0 : (V4 m (left m) c) (Proc.devRef .tc main_arg0) = (V0 m c) (Proc.devRef .tc main_arg0) :=
  (((V4_of m (left m) c main_arg0 (by decide)).trans (V3_of m c main_arg0 (by decide))).trans (V2_of m c main_arg0 (by decide))).trans (V1_of m c main_arg0 (by decide))
theorem V8_arg0 : (V8 m (left m) c) (Proc.devRef .tc main_arg0) = (V4 m (left m) c) (Proc.devRef .tc main_arg0) :=
  (((V8_of m (left m) c main_arg0 (by decide)).trans (V7_of m (left m) c main_arg0 (by decide))).trans (V6_of m (left m) c main_arg0 (by decide))).trans (V5_of m (left m) c main_arg0 (by decide))
theorem V8_v26 : (V8 m (left m) c) (Proc.devRef .tc main_v26) = (V5 m (left m) c) (Proc.devRef .tc main_v26) :=
  ((V8_of m (left m) c main_v26 (by decide)).trans (V7_of m (left m) c main_v26 (by decide))).trans (V6_of m (left m) c main_v26 (by decide))
theorem V12_v27 : (V12 m (left m) c) (Proc.devRef .tc main_v27) = (V5 m (left m) c) (Proc.devRef .tc main_v27) :=
  ((((((V12_of m (left m) c main_v27 (by decide)).trans (V11_of m (left m) c main_v27 (by decide))).trans (V10_of m (left m) c main_v27 (by decide))).trans (V9_of m (left m) c main_v27 (by decide))).trans (V8_of m (left m) c main_v27 (by decide))).trans (V7_of m (left m) c main_v27 (by decide))).trans (V6_of m (left m) c main_v27 (by decide))
theorem V12_v38 : (V12 m (left m) c) (Proc.devRef .tc main_v38) = (V9 m (left m) c) (Proc.devRef .tc main_v38) :=
  ((V12_of m (left m) c main_v38 (by decide)).trans (V11_of m (left m) c main_v38 (by decide))).trans (V10_of m (left m) c main_v38 (by decide))

variable {P : Params} {xs ys : ℕ → ℝ}
  (hI : Inputs P xs ys (fun n i => argX (V0 m c) (ix2 n i)) (fun k i => argM (V0 m c) (ix2 k i))
    (fun k i j => argC (V0 m c) (ix3 k i j)) (fun k => argW (V0 m c) (ix1 k)))

include hI

theorem rows3 : RowsAre P ((V3 m c) (Proc.devRef .tc main_v16)) := by
  rw [V3_v16]; exact rowsOf_are (V0 m c) hI
theorem cols3 : ColsAre P ((V3 m c) (Proc.devRef .tc main_v17)) := by
  rw [V3_v17]; exact colsOf_are (V0 m c) (rowsOf_are (V0 m c) hI)
theorem rows7 : RowsAre P ((V7 m (left m) c) (Proc.devRef .tc main_v16)) := by
  rw [V7_v16]; exact rows3 m c hI
theorem rows11 : RowsAre P ((V11 m (left m) c) (Proc.devRef .tc main_v16)) := by
  rw [V11_v16]; exact rows7 m c hI

/-- The points that a call is given: a stretch of the points, in the last call filled up with zeros. -/
theorem points0 : PointsAre (r := 768) xs ((V3 m c) (Proc.devRef .tc main_v22)) ∧ PointsAre (r := 768) ys ((V3 m c) (Proc.devRef .tc main_v24)) := by
  constructor <;> intro a l
  · refine (pts0_x_apply (V0 m c) a l).trans ((hI.x _).trans ?_)
    simp
  · refine (pts0_y_apply (V0 m c) a l).trans ((hI.y _).trans ?_)
    simp
theorem points1 : PointsAre (r := 768) (fun p => xs (393216 + p)) ((V7 m (left m) c) (Proc.devRef .tc main_v32))
    ∧ PointsAre (r := 768) (fun p => ys (393216 + p)) ((V7 m (left m) c) (Proc.devRef .tc main_v34)) := by
  have e : argX (V4 m (left m) c) = argX (V0 m c) := V4_arg0 m c
  constructor <;> intro a l
  · refine (pts1_x_apply (V4 m (left m) c) a l).trans ?_
    rw [e]; exact hI.x _
  · refine (pts1_y_apply (V4 m (left m) c) a l).trans ?_
    rw [e]; exact hI.y _
theorem points2 : PointsAre (r := 512) (fun p => if p < 213568 then xs (786432 + p) else 0) ((V11 m (left m) c) (Proc.devRef .tc main_v43))
    ∧ PointsAre (r := 512) (fun p => if p < 213568 then ys (786432 + p) else 0) ((V11 m (left m) c) (Proc.devRef .tc main_v45)) := by
  have e : argX (V8 m (left m) c) = argX (V0 m c) := (V8_arg0 m c).trans (V4_arg0 m c)
  constructor <;> intro a l
  · refine (pts2_x_apply (V8 m (left m) c) a l).trans ?_
    rw [e]; dsimp only; split
    · exact hI.x _
    · simp
  · refine (pts2_y_apply (V8 m (left m) c) a l).trans ?_
    rw [e]; dsimp only; split
    · exact hI.y _
    · simp

omit hI in
/-- The three calls' sums are the sum over all points. -/
theorem sum_calls (P : Params) (xs ys : ℕ → ℝ) : sumTo P xs ys 393216 + sumTo P (fun p => xs (393216 + p)) (fun p => ys (393216 + p)) 393216
    + sumTo P (fun p => if p < 213568 then xs (786432 + p) else 0) (fun p => if p < 213568 then ys (786432 + p) else 0) 213568
      = sumTo P xs ys 1000000 := by
  have e : sumTo P (fun p => if p < 213568 then xs (786432 + p) else 0) (fun p => if p < 213568 then ys (786432 + p) else 0) 213568
      = sumTo P (fun p => xs (786432 + p)) (fun p => ys (786432 + p)) 213568 :=
    Finset.sum_congr rfl fun p hp => by simp only [if_pos (Finset.mem_range.mp hp)]
  rw [e]
  unfold sumTo
  rw [show (1000000 : ℕ) = 786432 + 213568 from rfl, Finset.sum_range_add, show (786432 : ℕ) = 393216 + 393216 from rfl, Finset.sum_range_add]

/-- What the kernel ends with. -/
theorem kernel_real (j : S_.Idx) : ((V13 m (left m) c) (Proc.devRef .tc main_v54) : Vec Ideal S_ .f32) j
    = Ideal.div (-(Ideal.log ((sumTo P xs ys 1000000 : ℝ) : EReal) - Ideal.log ((P.Z : ℝ) : EReal))) (Ideal.ofBits .f32 0x49742400#32) := by
  have hj : j = ix0 := Subsingleton.elim _ _
  subst hj
  have h0 := (congrFun (V4_v25_0 m c) (ix2 0 0)).trans
    (out0_real (V3 m c) (points0 m c hI).1 (points0 m c hI).2 (rows3 m c hI))
  have hz := (congrFun (V4_v25_1 m c) (ix2 0 0)).trans (norm0_real (V3 m c) (rows3 m c hI) (cols3 m c hI))
  have h1 := (congrFun (V8_v35_0 m c) (ix2 0 0)).trans
    (out1_real (V7 m (left m) c) (points1 m c hI).1 (points1 m c hI).2 (rows7 m c hI))
  have h2 := (congrFun (V12_v46_0 m c) (ix2 0 0)).trans
    (out2_real (V11 m (left m) c) (points2 m c hI).1 (points2 m c hI).2 (rows11 m c hI))
  have h26 := (congrFun (V8_v26 m c) ix0).trans ((v26_apply (V4 m (left m) c)).trans h0)
  have h38 := (congrFun (V12_v38 m c) ix0).trans (v38_apply (V8 m (left m) c) h26 h1)
  have h27 := (congrFun (V12_v27 m c) ix0).trans ((v27_apply (V4 m (left m) c)).trans hz)
  refine (v54_apply (V12 m (left m) c) h38 h2 h27).trans ?_
  rw [← EReal.coe_add, ← EReal.coe_add, sum_calls]

end Run

end Cert.KernelIdeal.Own

end
-- ==== Proof.Value.Reads.lean ====
/-
  The reference's intermediate arrays, read at an index over the extended reals.
-/
module

public import proofs.«01_k».proof.Proof.Gen.ReferenceIdeal.Run
public import proofs.«01_k».proof.Proof.Value.Real
public import Idealize.ShloMosaic.Lib.Pointwise

@[expose] public section

set_option maxRecDepth 16384

noncomputable section

namespace Cert.ReferenceIdeal.Own

open Idealize.ShloMosaic Idealize.SL.Sem
open Cert.ReferenceIdeal Cert.ReferenceIdeal.Value Cert.Proof

variable [Facts]
open Facts₀ Facts

variable (V : Valuation τ sig (Elt Ideal))

/-- The arguments' contents at entry. -/
def argX : Vec Ideal S1000000x2 .f32 := V (Proc.devRef .tc main_arg0)
def argM : Vec Ideal S32x2 .f32 := V (Proc.devRef .tc main_arg1)
def argC : Vec Ideal S32x2x2 .f32 := V (Proc.devRef .tc main_arg2)
def argW : Vec Ideal S32 .f32 := V (Proc.devRef .tc main_arg3)

/-- The factors' entries, the means' differences and the mixture, as vectors. -/
def l00 : Vec Ideal S32 .f32 := res_main_v15 V
def l10 : Vec Ideal S32 .f32 := res_main_v16 V
def l11 : Vec Ideal S32 .f32 := res_main_v19 V
def circle : Vec Ideal S_ .f32 := res_main_v22 V
def dX : Vec Ideal S1000000x32 .f32 := res_main_v35 V
def dY : Vec Ideal S1000000x32 .f32 := res_main_v44 V
def dens : Vec Ideal S1000000 .f32 := res_main_v74 V
def logs : Vec Ideal S1000000 .f32 := res_main_v140 V
def top : Vec Ideal S_ .f32 := res_main_v144 V
def most : Vec Ideal S_ .f32 := res_main_v141 V

theorem l00_apply (k : Fin 32) : l00 V (ix1 k) = Ideal.sqrt (argC V (ix3 k 0 0) * argC V (ix3 k 0 0) + 1) := by
  pointwise [l00, res_main_v15, res_main_v1, argC]
theorem l10_apply (k : Fin 32) : l10 V (ix1 k) = Ideal.div (argC V (ix3 k 1 0) * argC V (ix3 k 0 0)) (l00 V (ix1 k)) := by
  pointwise [l10, l00, res_main_v16, res_main_v3, res_main_v1, argC]
theorem l11_apply (k : Fin 32) : l11 V (ix1 k) = Ideal.sqrt (argC V (ix3 k 1 0) * argC V (ix3 k 1 0)
    + argC V (ix3 k 1 1) * argC V (ix3 k 1 1) + 1 - l10 V (ix1 k) * l10 V (ix1 k)) := by
  pointwise [l11, l10, res_main_v19, res_main_v3, res_main_v5, argC]
theorem circle_apply (j : S_.Idx) : circle V j
    = Ideal.ofBits .f32 0x41000000#32 * Ideal.atan 1 * (Ideal.ofBits .f32 0x41000000#32 * Ideal.atan 1) := by
  pointwise [circle, res_main_v22, res_main_v21]
theorem dX_apply (n : Fin 1000000) (k : Fin 32) : dX V (ix2 n k) = argX V (ix2 n 0) - argM V (ix2 k 0) := by
  pointwise [dX, res_main_v35, argX, argM]
theorem dY_apply (n : Fin 1000000) (k : Fin 32) : dY V (ix2 n k) = argX V (ix2 n 1) - argM V (ix2 k 1) := by
  pointwise [dY, res_main_v44, argX, argM]
theorem dens_apply (n : Fin 1000000) : dens V (ix1 n) = ∑ k : Fin 32,
    Ideal.div (Ideal.exp (Ideal.ofBits .f32 0xBF000000#32 *
        (dX V (ix2 n k) * (Ideal.div 1 (l00 V (ix1 k)) * dX V (ix2 n k)) + dY V (ix2 n k) *
          (-(l10 V (ix1 k) * Ideal.div 1 (l00 V (ix1 k)) * Ideal.div 1 (l11 V (ix1 k))) * dX V (ix2 n k)
            + Ideal.div 1 (l11 V (ix1 k)) * dY V (ix2 n k)))))
      (Ideal.sqrt (circle V ix0 * (l00 V (ix1 k) * l11 V (ix1 k)))) * argW V (ix1 k) := by
  pointwise [dens, res_main_v74, res_main_v49, res_main_v51, dX, dY, l00, l10, l11, circle, argW]
def sum00 : Vec Ideal S32x32 .f32 := res_main_v80 V
def sum11 : Vec Ideal S32x32 .f32 := res_main_v90 V
def eX : Vec Ideal S32x32 .f32 := res_main_v99 V
def eY : Vec Ideal S32x32 .f32 := res_main_v108 V
def inv00 : Vec Ideal S32x32 .f32 := res_main_v110 V
def inv11 : Vec Ideal S32x32 .f32 := res_main_v112 V

theorem sum00_apply (i j : Fin 32) : sum00 V (ix2 i j) = l00 V (ix1 i) + l00 V (ix1 j) := by pointwise [sum00, l00, res_main_v80]
theorem sum11_apply (i j : Fin 32) : sum11 V (ix2 i j) = l11 V (ix1 i) + l11 V (ix1 j) := by pointwise [sum11, l11, res_main_v90]
theorem eX_apply (i j : Fin 32) : eX V (ix2 i j) = argM V (ix2 i 0) - argM V (ix2 j 0) := by pointwise [eX, argM, res_main_v99]
theorem eY_apply (i j : Fin 32) : eY V (ix2 i j) = argM V (ix2 i 1) - argM V (ix2 j 1) := by pointwise [eY, argM, res_main_v108]
theorem inv00_apply (i j : Fin 32) : inv00 V (ix2 i j) = Ideal.div 1 (sum00 V (ix2 i j)) := by pointwise [inv00, sum00, res_main_v110]
theorem inv11_apply (i j : Fin 32) : inv11 V (ix2 i j) = Ideal.div 1 (sum11 V (ix2 i j)) := by pointwise [inv11, sum11, res_main_v112]

theorem finite_or_zero_apply (M : Vec Ideal S_ .f32) (j : S_.Idx) :
    (select (cmpf .olt (Host.absf M) (constant (F := Ideal) S_ .f32 0x7F800000#32)) M (constant (F := Ideal) S_ .f32 0x00000000#32) : Vec Ideal S_ .f32) j
      = if (FloatOps.absf (F := Ideal) (φ := .f32) (M j) : EReal) < Ideal.ofBits .f32 0x7F800000#32 then M j else 0 := by
  pointwise []

theorem top_apply (j : S_.Idx) : top V j
    = if (FloatOps.absf (F := Ideal) (φ := .f32) (most V j) : EReal) < Ideal.ofBits .f32 0x7F800000#32 then most V j else 0 :=
  finite_or_zero_apply (res_main_v141 V) j

end Cert.ReferenceIdeal.Own

end
-- ==== Proof.Value.Reference.lean ====
/-
  What the reference computes over the extended reals.
-/
module

public import proofs.«01_k».proof.Proof.Value.Reads
public import proofs.«01_k».proof.Proof.Value.Real
public import Idealize.ShloMosaic.Lib.Pointwise

@[expose] public section

set_option maxRecDepth 16384

noncomputable section

namespace Cert.ReferenceIdeal.Own

open Idealize.ShloMosaic Idealize.SL.Sem
open Cert.ReferenceIdeal Cert.ReferenceIdeal.Value Cert.Proof

variable [Facts]
open Facts₀ Facts

variable (V : Valuation τ sig (Elt Ideal))

/-- The pair term, and the pairwise sum. -/
def pairs (i j : Fin 32) : EReal :=
  Ideal.div (Ideal.exp (Ideal.ofBits .f32 0xBF000000#32 *
        (eX V (ix2 i j) * (inv00 V (ix2 i j) * eX V (ix2 i j)) + eY V (ix2 i j) *
            (-((l10 V (ix1 i) + l10 V (ix1 j)) * inv00 V (ix2 i j) * inv11 V (ix2 i j)) * eX V (ix2 i j)
              + inv11 V (ix2 i j) * eY V (ix2 i j)))))
      (Ideal.sqrt (circle V ix0 * (sum00 V (ix2 i j) * sum11 V (ix2 i j)))) * argW V (ix1 i) * argW V (ix1 j)

theorem log_div_apply (d : FVec Ideal S1000000 .f32) (N : FVec Ideal S_ .f32) (n : Fin 1000000) :
    (Host.log (Host.divf (mulf d d) (broadcastInDim S1000000 ![] bcast_S_S1000000 N)) : FVec Ideal S1000000 .f32) (ix1 n)
      = Ideal.log (Ideal.div (d (ix1 n) * d (ix1 n)) (N ix0)) := by
  pointwise []

theorem sum_pairs_apply (M : FVec Ideal S32x32 .f32) :
    (Host.reduceAdd M (constant S_ .f32 0x00000000#32) reducesTo_S32x32_S_d0_1 h_S_ : FVec Ideal S_ .f32) ix0
      = ∑ i : Fin 32, ∑ j : Fin 32, M (ix2 i j) := by
  pointwise []

theorem logs_apply (n : Fin 1000000) : logs V (ix1 n) = Ideal.log (Ideal.div (dens V (ix1 n) * dens V (ix1 n))
    (∑ i : Fin 32, ∑ j : Fin 32, pairs V i j)) := by
  unfold logs res_main_v140
  refine (log_div_apply (res_main_v74 V) _ n).trans ?_
  refine congrArg (fun z => Ideal.log (Ideal.div (dens V (ix1 n) * dens V (ix1 n)) z)) ?_
  refine (sum_pairs_apply _).trans ?_
  refine Finset.sum_congr rfl fun i _ => Finset.sum_congr rfl fun j _ => ?_
  unfold pairs eX eY inv00 inv11 l10 circle sum00 sum11 argW
  pointwise []

/-! ## The constants -/

theorem eight : Ideal.ofBits .f32 0x41000000#32 = ((8 : ℝ) : EReal) := by
  simp [Ideal.ofBits, Ideal.ieee, -EReal.coe_mul]; norm_num
theorem neg_half : Ideal.ofBits .f32 0xBF000000#32 = ((-(1 / 2) : ℝ) : EReal) := by
  simp [Ideal.ofBits, Ideal.ieee, -EReal.coe_mul, -EReal.coe_neg]; norm_num
theorem infinity : Ideal.ofBits .f32 0x7F800000#32 = ⊤ := by
  simp [Ideal.ofBits, Ideal.ieee]
theorem million : Ideal.ofBits .f32 0x49742400#32 = ((1000000 : ℝ) : EReal) := by
  simp [Ideal.ofBits, Ideal.ieee, -EReal.coe_mul]; norm_num

/-- Eight times the arc tangent of one, squared. -/
theorem circle_real (j : S_.Idx) : circle V j = (((2 * Real.pi) ^ 2 : ℝ) : EReal) := by
  rw [circle_apply, eight, show Ideal.atan 1 = ((Real.arctan 1 : ℝ) : EReal) from rfl, Real.arctan_one, ← EReal.coe_mul, ← EReal.coe_mul]
  congr 1; ring

/-- The shift is finite. -/
theorem top_real : ∃ t : ℝ, ∀ j, top V j = (t : EReal) := by
  have h : ∀ j : S_.Idx, j = ix0 := fun j => funext fun a => a.elim0
  by_cases hm : (FloatOps.absf (F := Ideal) (φ := .f32) (most V ix0) : EReal) < (⊤ : EReal)
  · obtain ⟨x, hx⟩ : ∃ x : ℝ, most V ix0 = (x : EReal) := by
      rw [Ideal.absf_def] at hm
      have h1 : most V ix0 < (⊤ : EReal) := lt_of_le_of_lt (le_max_left _ _) hm
      have h2 : -most V ix0 < (⊤ : EReal) := lt_of_le_of_lt (le_max_right _ _) hm
      refine ⟨EReal.toReal (most V ix0), (EReal.coe_toReal h1.ne ?_).symm⟩
      intro h3; rw [h3] at h2; exact absurd h2 (by simp)
    exact ⟨x, fun j => by rw [h j, top_apply, infinity, if_pos hm, hx]⟩
  · exact ⟨0, fun j => by rw [h j, top_apply, infinity, if_neg hm]; rfl⟩

/-! ## Finite arguments -/

section Finite

variable {V} {P : Params} {xs ys : ℕ → ℝ}
  (hI : Inputs P xs ys (fun n i => argX V (ix2 n i)) (fun k i => argM V (ix2 k i)) (fun k i j => argC V (ix3 k i j)) (fun k => argW V (ix1 k)))
include hI

theorem l00_real (k : Fin 32) : l00 V (ix1 k) = ((P.a k : ℝ) : EReal) := by
  rw [l00_apply, hI.c00]; exact f00_real _
theorem l10_real (k : Fin 32) : l10 V (ix1 k) = ((P.b k : ℝ) : EReal) := by
  rw [l10_apply, hI.c00, hI.c10, l00_real hI, mul_comm]; exact f10_real _ _
theorem l11_real (k : Fin 32) : l11 V (ix1 k) = ((P.c k : ℝ) : EReal) := by
  rw [l11_apply, hI.c10, hI.c11, l10_real hI]; exact f11_real _ _ _
theorem dX_real (n : Fin 1000000) (k : Fin 32) : dX V (ix2 n k) = ((xs n.val : ℝ) : EReal) := by
  rw [dX_apply, hI.x, hI.m, sub_zero]
theorem dY_real (n : Fin 1000000) (k : Fin 32) : dY V (ix2 n k) = ((ys n.val : ℝ) : EReal) := by
  rw [dY_apply, hI.y, hI.m, sub_zero]

omit hI in
theorem sqrt_circle {q : ℝ} (hq : 0 ≤ q) : √((2 * Real.pi) ^ 2 * q) = 2 * Real.pi * √q := by
  rw [Real.sqrt_mul (sq_nonneg _), Real.sqrt_sq (by positivity)]

theorem dens_real (n : Fin 1000000) : dens V (ix1 n) = ((P.mix (xs n.val) (ys n.val) : ℝ) : EReal) := by
  rw [dens_apply]
  unfold Params.mix
  rw [← sum_real]
  refine Finset.sum_congr rfl fun k _ => ?_
  have ha := P.a_pos k
  have hc := P.c_pos k
  have hp := Real.pi_pos
  have hs : 0 < √(P.a k * P.c k) := Real.sqrt_pos.mpr (mul_pos ha hc)
  rw [l00_real hI, l10_real hI, l11_real hI, dX_real hI, dY_real hI, hI.w, circle_real, neg_half, one_div_real ha.ne', one_div_real hc.ne']
  simp only [← EReal.coe_mul, ← EReal.coe_add, ← EReal.coe_neg]
  rw [Ideal.exp_coe, sqrt_real (mul_nonneg (sq_nonneg _) (mul_pos ha hc).le), sqrt_circle (mul_pos ha hc).le,
    div_real _ (by positivity), ← EReal.coe_mul]
  congr 1
  rw [show -(1 / 2) * (xs n.val * (1 / P.a k * xs n.val) + ys n.val * (-(P.b k * (1 / P.a k) * (1 / P.c k)) * xs n.val + 1 / P.c k * ys n.val))
    = -(1 / 2) * P.quad k (xs n.val) (ys n.val) by unfold Params.quad; ring]
  unfold Params.part
  field_simp

theorem norm_real : (∑ i : Fin 32, ∑ j : Fin 32, pairs V i j) = ((P.Z : ℝ) : EReal) := by
  unfold Params.Z
  rw [← sum_real]
  refine Finset.sum_congr rfl fun i _ => ?_
  rw [← sum_real]
  refine Finset.sum_congr rfl fun j _ => ?_
  have hA : 0 < P.a i + P.a j := add_pos (P.a_pos i) (P.a_pos j)
  have hC : 0 < P.c i + P.c j := add_pos (P.c_pos i) (P.c_pos j)
  have hp := Real.pi_pos
  have hs : 0 < √((P.a i + P.a j) * (P.c i + P.c j)) := Real.sqrt_pos.mpr (mul_pos hA hC)
  have mx : eX V (ix2 i j) = 0 := by rw [eX_apply, hI.m, hI.m, sub_zero]
  have my : eY V (ix2 i j) = 0 := by rw [eY_apply, hI.m, hI.m, sub_zero]
  unfold pairs
  rw [mx, my, sum00_apply, sum11_apply, l00_real hI, l11_real hI, l00_real hI, l11_real hI, hI.w, hI.w, circle_real]
  simp only [sub_zero, mul_zero, zero_mul, add_zero]
  simp only [← EReal.coe_mul, ← EReal.coe_add, ← EReal.coe_neg]
  rw [show (0 : EReal) = ((0 : ℝ) : EReal) from rfl, Ideal.exp_coe, sqrt_real (mul_nonneg (sq_nonneg _) (mul_pos hA hC).le),
    sqrt_circle (mul_pos hA hC).le, div_real _ (by positivity), ← EReal.coe_mul, ← EReal.coe_mul, Real.exp_zero]
  congr 1
  unfold Params.pair
  field_simp

omit hI in
theorem close_apply (l : FVec Ideal S1000000 .f32) (t : FVec Ideal S_ .f32) :
    (Host.negf (Host.divf (addf (Host.log (Host.reduceAdd (Host.exp (subf l
      (broadcastInDim S1000000 ![] bcast_S_S1000000 t))) (constant S_ .f32 0x00000000#32) reducesTo_S1000000_S_d0 h_S_))
        t) (constant S_ .f32 0x49742400#32)) : FVec Ideal S_ .f32) ix0
      = -(Ideal.div (Ideal.log (∑ n : Fin 1000000, Ideal.exp (l (ix1 n) - t ix0)) + t ix0) (Ideal.ofBits .f32 0x49742400#32)) := by
  pointwise []

/-- What the reference ends with. -/
theorem result_real (hZ : 0 ≤ P.Z) (j : S_.Idx) :
    (Host.negf (Host.divf (addf (Host.log (Host.reduceAdd (Host.exp (subf (res_main_v140 V)
      (broadcastInDim S1000000 ![] bcast_S_S1000000 (res_main_v144 V)))) (constant S_ .f32 0x00000000#32) reducesTo_S1000000_S_d0 h_S_))
        (res_main_v144 V)) (constant S_ .f32 0x49742400#32)) : Vec Ideal S_ .f32) j
      = -(Ideal.div (Ideal.log ((∑ p ∈ Finset.range 1000000, P.mix (xs p) (ys p) * P.mix (xs p) (ys p) : ℝ) : EReal)
          - Ideal.log ((P.Z : ℝ) : EReal)) ((1000000 : ℝ) : EReal)) := by
  have e : (Host.negf (Host.divf (addf (Host.log (Host.reduceAdd (Host.exp (subf (res_main_v140 V)
      (broadcastInDim S1000000 ![] bcast_S_S1000000 (res_main_v144 V)))) (constant S_ .f32 0x00000000#32) reducesTo_S1000000_S_d0 h_S_))
        (res_main_v144 V)) (constant S_ .f32 0x49742400#32)) : Vec Ideal S_ .f32) j
      = -(Ideal.div (Ideal.log (∑ n : Fin 1000000, Ideal.exp (logs V (ix1 n) - top V ix0)) + top V ix0) (Ideal.ofBits .f32 0x49742400#32)) := by
    rw [show j = ix0 from funext fun a => a.elim0]
    exact close_apply (res_main_v140 V) (res_main_v144 V)
  obtain ⟨t, ht⟩ := top_real V
  rw [e, million, ht]
  simp only [logs_apply, norm_real hI, dens_real hI, ← EReal.coe_mul]
  rw [logsumexp_eq (fun n : Fin 1000000 => P.mix (xs n.val) (ys n.val) * P.mix (xs n.val) (ys n.val)) (fun n => mul_self_nonneg _) hZ t,
    Finset.sum_range]

end Finite

end Cert.ReferenceIdeal.Own

end
-- ==== Proof.Value.Given.lean ====
/-
  What the precondition says of the arguments: finite points and parameters, and means at zero.
-/
module

public import proofs.«01_k».proof.Pre_finite_centred
public import proofs.«01_k».proof.Proof.Value.Real
public import Idealize.ShloMosaic.Lib.ReduceAll
public import Idealize.ShloMosaic.Lib.Pointwise

@[expose] public section

set_option maxRecDepth 16384

noncomputable section

namespace Cert.Pre_finite_centred.Own

open Idealize.ShloMosaic
open Cert.Pre_finite_centred Cert.Proof

/-- The side conditions of the predicate's operations. -/
theorem facts : Cert.Pre_finite_centred.Facts where
  bcast_S_S1000000x2 := by decide
  reducesTo_S1000000x2_S_d0_1 := by decide
  h_S_ := by decide
  bcast_S_S32x2 := by decide
  reducesTo_S32x2_S_d0_1 := by decide
  slices_S32x2x2_S32x1x1_0_0_0 := by decide
  shapeCasts_S32x1x1_S32 := by decide
  bcast_S_S32 := by decide
  reducesTo_S32_S_d0 := by decide
  slices_S32x2x2_S32x1x1_0_1_0 := by decide
  slices_S32x2x2_S32x1x1_0_1_1 := by decide

variable [Facts]
open Facts

/-- A value whose size is below infinity is a real number. -/
theorem real_of_lt {x : EReal} (h : Ideal.cmp .olt (max x (-x)) (Ideal.ofBits .f32 0x7F800000#32) = 1#1) : x = ((x.toReal : ℝ) : EReal) := by
  have hi : Ideal.ofBits .f32 0x7F800000#32 = ⊤ := by simp [Ideal.ofBits, Ideal.ieee]
  rw [hi] at h
  have h' : max x (-x) < ⊤ := by
    by_contra hn
    simp [Ideal.cmp, hn] at h
  refine (EReal.coe_toReal (fun e => ?_) (fun e => ?_)).symm <;> simp [e] at h'

theorem zero_of_eq {x : EReal} (h : Ideal.cmp .oeq x (Ideal.ofBits .f32 0x00000000#32) = 1#1) : x = 0 := by
  have hz : Ideal.ofBits .f32 0x00000000#32 = 0 := by simp [Ideal.ofBits, Ideal.ieee]
  rw [hz] at h
  by_contra hn
  simp [Ideal.cmp, hn] at h

instance : Subsingleton S_.Idx := ⟨fun a b => funext fun i => i.elim0⟩

/-- An array all of whose elements the predicate finds finite. -/
theorem finite_all {s : Shape} {axes : List (Fin s.rank)} (x : FVec Ideal s .f32) (b : S_.BroadcastsInDim s (![] : Fin 0 → Fin s.rank))
    (h : s.ReducesTo axes S_) (e : Host.reduce IntOp.andi (cmpf .olt (Host.absf x) (broadcastInDim s ![] b (constant (F := Ideal) S_ .f32 0x7F800000#32)))
      (constantI S_ 1 1#1) h h_S_ ix0 = 1#1) (i : s.Idx) : x i = (((x i : EReal).toReal : ℝ) : EReal) :=
  real_of_lt (Host.reduce_andi_all _ _ h h_S_ ix0 e i)

theorem zero_all {s : Shape} {axes : List (Fin s.rank)} (x : FVec Ideal s .f32) (b : S_.BroadcastsInDim s (![] : Fin 0 → Fin s.rank))
    (h : s.ReducesTo axes S_) (e : Host.reduce IntOp.andi (cmpf .oeq x (broadcastInDim s ![] b (constant (F := Ideal) S_ .f32 0x00000000#32)))
      (constantI S_ 1 1#1) h h_S_ ix0 = 1#1) (i : s.Idx) : x i = (0 : EReal) :=
  zero_of_eq (Host.reduce_andi_all _ _ h h_S_ ix0 e i)

variable (X : FVec Ideal S1000000x2 .f32) (M : FVec Ideal S32x2 .f32) (C : FVec Ideal S32x2x2 .f32) (W : FVec Ideal S32 .f32) (q : IVec S_ 32)

/-- The real numbers the arguments hold. -/
def params : Params where
  c00 k := (C (ix3 k 0 0) : EReal).toReal
  c10 k := (C (ix3 k 1 0) : EReal).toReal
  c11 k := (C (ix3 k 1 1) : EReal).toReal
  w k := (W (ix1 k) : EReal).toReal
def coord (i : Fin 2) (n : ℕ) : ℝ := if h : n < 1000000 then (X (ix2 ⟨n, h⟩ i) : EReal).toReal else 0

theorem entry00 (k : Fin 32) : (shapeCast S32 (extractStridedSlice S32x1x1 ![0, 0, 0] C slices_S32x2x2_S32x1x1_0_0_0) shapeCasts_S32x1x1_S32 : FVec Ideal S32 .f32) (ix1 k)
    = C (ix3 k 0 0) := by pointwise []
theorem entry10 (k : Fin 32) : (shapeCast S32 (extractStridedSlice S32x1x1 ![0, 1, 0] C slices_S32x2x2_S32x1x1_0_1_0) shapeCasts_S32x1x1_S32 : FVec Ideal S32 .f32) (ix1 k)
    = C (ix3 k 1 0) := by pointwise []
theorem entry11 (k : Fin 32) : (shapeCast S32 (extractStridedSlice S32x1x1 ![0, 1, 1] C slices_S32x2x2_S32x1x1_0_1_1) shapeCasts_S32x1x1_S32 : FVec Ideal S32 .f32) (ix1 k)
    = C (ix3 k 1 1) := by pointwise []

/-- Under the precondition the arguments are what the two sides' values are worked out from. -/
theorem inputs (h : fn (F := Ideal) X M C W q = fun _ => 1#1) :
    Inputs (params C W) (coord X 0) (coord X 1) (fun n i => X (ix2 n i)) (fun k i => M (ix2 k i)) (fun k i j => C (ix3 k i j)) (fun k => W (ix1 k)) := by
  have e := congrFun h ix0
  unfold fn fn_part1 at e
  dsimp only at e
  obtain ⟨e, hw⟩ := IntOp.andi_eq_one.1 e
  obtain ⟨e, h11⟩ := IntOp.andi_eq_one.1 e
  obtain ⟨e, h10⟩ := IntOp.andi_eq_one.1 e
  obtain ⟨e, h00⟩ := IntOp.andi_eq_one.1 e
  obtain ⟨hx, hm⟩ := IntOp.andi_eq_one.1 e
  have fx := fun n i => finite_all X _ _ hx (ix2 n i)
  have f00 := fun k => finite_all _ _ _ h00 (ix1 k)
  have f10 := fun k => finite_all _ _ _ h10 (ix1 k)
  have f11 := fun k => finite_all _ _ _ h11 (ix1 k)
  simp only [entry00] at f00
  simp only [entry10] at f10
  simp only [entry11] at f11
  exact {
    x := fun n => by rw [fx n 0]; unfold coord; rw [dif_pos n.isLt, ← fx n 0]
    y := fun n => by rw [fx n 1]; unfold coord; rw [dif_pos n.isLt, ← fx n 1]
    m := fun k i => zero_all M _ _ hm (ix2 k i)
    c00 := f00
    c10 := f10
    c11 := f11
    w := fun k => finite_all W _ _ hw (ix1 k) }

end Cert.Pre_finite_centred.Own

end
-- ==== Proof.Value.Algebraic.lean ====
/-
  The kernel and the reference end with the same value, over the extended reals.
-/
module

public import proofs.«01_k».proof.Defs
public import proofs.«01_k».proof.Proof.Value.Calls
public import proofs.«01_k».proof.Proof.Value.Reference
public import proofs.«01_k».proof.Proof.Value.Given

@[expose] public section

set_option maxRecDepth 16384

noncomputable section

namespace Cert.Proof

open Idealize.ShloMosaic Idealize.SL.Sem

theorem same_value : Cert.algebraic_KernelIdeal_ReferenceIdeal_pre_finite_centred (hKernelIdeal := Cert.KernelIdeal.Gen.facts)
    (hReferenceIdeal := Cert.ReferenceIdeal.Gen.facts) (hPre_finite_centred := Cert.Pre_finite_centred.Own.facts) := by
  intro m g m' g' hpre hargs
  refine ⟨fun c => Cert.KernelIdeal.Gen.V13 m (Cert.KernelIdeal.Own.left m) c (Proc.devRef .tc Cert.KernelIdeal.main_v54),
    (θ_run _ _ _).mono (fun _ h => h.1) (Cert.KernelIdeal.Own.run (F := Ideal) m g),
    (θ_run _ _ _).mono (fun _ h c => ⟨(h c).1.trans (funext fun j => ?_), (h c).2⟩) (Cert.ReferenceIdeal.Value.run (F := Ideal) m' g')⟩
  letI := Cert.Pre_finite_centred.Own.facts
  obtain ⟨P, xs, ys, hI⟩ : ∃ P xs ys, Inputs P xs ys _ _ _ _ := ⟨_, _, _, Cert.Pre_finite_centred.Own.inputs _ _ _ _ _ (hpre c)⟩
  obtain ⟨a0, a1, a2, a3, -⟩ := hargs c
  have hR := hI
  rw [← a0, ← a1, ← a2, ← a3] at hR
  refine (Cert.ReferenceIdeal.Own.result_real (V := StableHlo.launchContents m' c) hR (Params.Z_nonneg _) j).trans ?_
  refine ((Cert.KernelIdeal.Own.kernel_real m c hI j).trans ?_).symm
  rw [Cert.ReferenceIdeal.Own.million, neg_div (by norm_num)]
  rfl

end Cert.Proof

end
-- ==== Proof.lean ====
/- The claim: its parts, put together. -/
module

public import proofs.«01_k».proof.Proof.Ends
public import proofs.«01_k».proof.Proof.Value.Algebraic

@[expose] public section

noncomputable section

namespace Cert.Proof

theorem claim : Cert.Claim :=
  ⟨Cert.Kernel.Gen.facts, Cert.KernelIdeal.Gen.facts, Cert.ReferenceIdeal.Gen.facts, Cert.Pre_finite_centred.Own.facts,
    kernel_ends, kernelIdeal_ends, fun m g _ => kernelIdeal_ends m g trivial, referenceIdeal_ends,
    fun m g _ => referenceIdeal_ends m g trivial, constants, same_value⟩

end Cert.Proof

end
